-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S131072x64 : Shape := ⟨2, ![131072, 64]⟩
abbrev S131072 : Shape := ⟨1, ![131072]⟩
abbrev S8192x64 : Shape := ⟨2, ![8192, 64]⟩
abbrev S_ : Shape := ⟨0, ![]⟩

class Facts : Prop where
  bcast_S_S131072 : S_.BroadcastsInDim S131072 (![] : Fin 0 → Fin S131072.rank)
  reducesTo_S131072_S_d0 : S131072.ReducesTo [0] S_
  h_S_ : 0 < S_.numel

variable [Facts]

def fn {F : FTy → Type} [FloatOps F] (main_arg0 : FVec F S131072x64 .f32) (main_arg1 : IVec S131072 1) (main_arg2 : FVec F S8192x64 .f32) (main_arg3 : IVec S131072 32) : IVec S_ 1 :=
  let main_c : IVec S_ 32 := constantI S_ 32 0#32
  let main_v0 : IVec S131072 32 := broadcastInDim S131072 ![] bcast_S_S131072 main_c
  let main_v1 : IVec S131072 1 := cmpi .sge main_arg3 main_v0
  let main_c_0 : IVec S_ 32 := constantI S_ 32 8192#32
  let main_v2 : IVec S131072 32 := broadcastInDim S131072 ![] bcast_S_S131072 main_c_0
  let main_v3 : IVec S131072 1 := cmpi .slt main_arg3 main_v2
  let main_v4 : IVec S131072 1 := andi main_v1 main_v3
  let main_c_1 : IVec S_ 1 := constantI S_ 1 1#1
  let main_v5 : IVec S_ 1 := (fun x v => Host.reduce IntOp.andi x v reducesTo_S131072_S_d0 h_S_) main_v4 main_c_1
  main_v5
-- ==== Kernel.lean ====
abbrev S131072x64 : Shape := ⟨2, ![131072, 64]⟩
abbrev S131072 : Shape := ⟨1, ![131072]⟩
abbrev S8192x64 : Shape := ⟨2, ![8192, 64]⟩
abbrev S4096 : Shape := ⟨1, ![4096]⟩
abbrev S128x64 : Shape := ⟨2, ![128, 64]⟩
abbrev S8x64 : Shape := ⟨2, ![8, 64]⟩
abbrev S128 : Shape := ⟨1, ![128]⟩
abbrev S_ : Shape := ⟨0, ![]⟩
abbrev S16 : Shape := ⟨1, ![16]⟩
abbrev S1 : Shape := ⟨1, ![1]⟩
abbrev S1x16 : Shape := ⟨2, ![1, 16]⟩

abbrev nBuf : Table → Nat
  | .hbm => 6
  | .local .scVector .vmem => 10
  | _ => 0

abbrev bufTy : (tb : Table) → Fin (nBuf tb) → BufTy
  | .hbm, ⟨0, _⟩ => ⟨S131072x64, .f32⟩
  | .hbm, ⟨1, _⟩ => ⟨S131072, .i1⟩
  | .hbm, ⟨2, _⟩ => ⟨S8192x64, .f32⟩
  | .hbm, ⟨3, _⟩ => ⟨S131072, .i32⟩
  | .hbm, ⟨4, _⟩ => ⟨S131072, .i32⟩
  | .hbm, ⟨5, _⟩ => ⟨S131072x64, .f32⟩
  | .local .scVector .vmem, ⟨0, _⟩ => ⟨S4096, .i32⟩
  | .local .scVector .vmem, ⟨1, _⟩ => ⟨S128x64, .f32⟩
  | .local .scVector .vmem, ⟨2, _⟩ => ⟨S8x64, .f32⟩
  | .local .scVector .vmem, ⟨3, _⟩ => ⟨S128, .i32⟩
  | .local .scVector .vmem, ⟨4, _⟩ => ⟨S128x64, .f32⟩
  | .local .scVector .vmem, ⟨5, _⟩ => ⟨S128x64, .f32⟩
  | .local .scVector .vmem, ⟨6, _⟩ => ⟨S128x64, .f32⟩
  | .local .scVector .vmem, ⟨7, _⟩ => ⟨S128x64, .f32⟩
  | .local .scVector .vmem, ⟨8, _⟩ => ⟨S128x64, .f32⟩
  | .local .scVector .vmem, ⟨9, _⟩ => ⟨S128x64, .f32⟩
  | _, _ => ⟨S131072x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 32 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | _ => false

abbrev sig : RefSig :=
  ofTables nBuf rfl bufTy 4 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_arg0_scv : Ref sig .scVector := ⟨.hbm, 0, rfl⟩
abbrev main_v0_scv : Ref sig .scVector := ⟨.hbm, 4, rfl⟩
abbrev main_arg2_scv : Ref sig .scVector := ⟨.hbm, 2, rfl⟩
abbrev main_arg3_scv : Ref sig .scVector := ⟨.hbm, 3, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_0 : BitVec 32 := 0#32
  ![v3.toNat, 0]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  ![v2.toNat]
@[reducible] def k0_t1_loop : Scf.Loop 32 :=
  let c0_i32_13 : BitVec 32 := 0#32
  let c256_i32_14 : BitVec 32 := 256#32
  let v22 : BitVec 32 := Scalar.addi c0_i32_13 c256_i32_14
  let c1_i32 : BitVec 32 := 1#32
  ⟨c0_i32_13, v22, c1_i32⟩
def k0_off3 (k0_t1 : Fin k0_t1_loop.trips) : Fin 1 → Nat :=
  let c0_i32_13 : BitVec 32 := 0#32
  let c1_i32 : BitVec 32 := 1#32
  let arg29 : BitVec 32 := Scf.iv c0_i32_13 c1_i32 k0_t1
  let c16_i32 : BitVec 32 := 16#32
  let v77 : BitVec 32 := Scalar.muli arg29 c16_i32
  let v78 : Index := Scalar.indexCast v77
  ![v78.toNat]
def k0_off4 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_19 : BitVec 32 := 0#32
  ![v3.toNat, 0]
def k0_off5 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let v3 : BitVec 32 := Scalar.addi v2 c0_i32
  let c0_i32_19 : BitVec 32 := 0#32
  ![v3.toNat, 0]
@[reducible] def k0_t2_loop : Scf.Loop 32 :=
  let c0_i32_32 : BitVec 32 := 0#32
  let c32_i32 : BitVec 32 := 32#32
  let v89 : BitVec 32 := Scalar.addi c0_i32_32 c32_i32
  let c1_i32_33 : BitVec 32 := 1#32
  ⟨c0_i32_32, v89, c1_i32_33⟩
def k0_off6 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_32 : BitVec 32 := 0#32
  let c1_i32_33 : BitVec 32 := 1#32
  let arg29 : BitVec 32 := Scf.iv c0_i32_32 c1_i32_33 k0_t2
  let c128_i32_35 : BitVec 32 := 128#32
  let v91 : BitVec 32 := Scalar.muli arg29 c128_i32_35
  let v92 : BitVec 32 := Scalar.addi v2 v91
  let c0_i32_41_r1 : BitVec 32 := 0#32
  ![v92.toNat, 0]
def k0_off7 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4096_i32 : BitVec 32 := 4096#32
  let v2 : BitVec 32 := Scalar.muli v1 c4096_i32
  let c0_i32_32 : BitVec 32 := 0#32
  let c1_i32_33 : BitVec 32 := 1#32
  let arg29 : BitVec 32 := Scf.iv c0_i32_32 c1_i32_33 k0_t2
  let c128_i32_35 : BitVec 32 := 128#32
  let v91 : BitVec 32 := Scalar.muli arg29 c128_i32_35
  let v92 : BitVec 32 := Scalar.addi v2 v91
  ![v92.toNat]
@[reducible] def k0_t3_loop : Scf.Loop 32 :=
  let c0_i32_37 : BitVec 32 := 0#32
  let c8_i32 : BitVec 32 := 8#32
  let v93 : BitVec 32 := Scalar.addi c0_i32_37 c8_i32
  let c1_i32_38 : BitVec 32 := 1#32
  ⟨c0_i32_37, v93, c1_i32_38⟩
def k0_off8 (k0_t2 : Fin k0_t2_loop.trips) (k0_t3 : Fin k0_t3_loop.trips) : Fin 1 → Nat :=
  let c0_i32_32 : BitVec 32 := 0#32
  let c1_i32_33 : BitVec 32 := 1#32
  let arg29 : BitVec 32 := Scf.iv c0_i32_32 c1_i32_33 k0_t2
  let c128_i32_41 : BitVec 32 := 128#32
  let v95 : BitVec 32 := Scalar.muli arg29 c128_i32_41
  let c0_i32_37 : BitVec 32 := 0#32
  let c1_i32_38 : BitVec 32 := 1#32
  let arg31 : BitVec 32 := Scf.iv c0_i32_37 c1_i32_38 k0_t3
  let c16_i32 : BitVec 32 := 16#32
  let v96 : BitVec 32 := Scalar.muli arg31 c16_i32
  let v97 : BitVec 32 := Scalar.addi v95 v96
  let v98 : Index := Scalar.indexCast v97
  ![v98.toNat]
def k0_off9 (k0_t3 : Fin k0_t3_loop.trips) : Fin 1 → Nat :=
  let c0_i32_37 : BitVec 32 := 0#32
  let c1_i32_38 : BitVec 32 := 1#32
  let arg31 : BitVec 32 := Scf.iv c0_i32_37 c1_i32_38 k0_t3
  let c16_i32_42 : BitVec 32 := 16#32
  let v101 : BitVec 32 := Scalar.muli arg31 c16_i32_42
  let v102 : Index := Scalar.indexCast v101
  ![v102.toNat]
def k0_off10 (v111 : BitVec 32) : Fin 2 → Nat :=
  let c0_i32_97 : BitVec 32 := 0#32
  let v250 : BitVec 1 := Scalar.cmpi .sgt v111 c0_i32_97
  let v251 : BitVec 32 := Scalar.extui v250
  let c0_i32_98 : BitVec 32 := 0#32
  let v252 : BitVec 1 := Scalar.cmpi .slt v111 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v111 c8_i32_96
  let c0_i32_101 : BitVec 32 := 0#32
  let v262 : BitVec 1 := Scalar.cmpi .ne v261 c0_i32_101
  let v263 : BitVec 1 := Scalar.andi v260 v262
  let v249 : BitVec 32 := Scalar.divsi v111 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r3 : BitVec 32 := 0#32
  ![v266.toNat, 0]
def k0_cond2 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) : BitVec 1 :=
  let v28 : BitVec 32 := Scalar.addi v25 v27
  let v31 : BitVec 32 := Scalar.addi v28 v30
  let v34 : BitVec 32 := Scalar.addi v31 v33
  let v37 : BitVec 32 := Scalar.addi v34 v36
  let v40 : BitVec 32 := Scalar.addi v37 v39
  let v43 : BitVec 32 := Scalar.addi v40 v42
  let v46 : BitVec 32 := Scalar.addi v43 v45
  let v49 : BitVec 32 := Scalar.addi v46 v48
  let v52 : BitVec 32 := Scalar.addi v49 v51
  let v55 : BitVec 32 := Scalar.addi v52 v54
  let v58 : BitVec 32 := Scalar.addi v55 v57
  let v61 : BitVec 32 := Scalar.addi v58 v60
  let v64 : BitVec 32 := Scalar.addi v61 v63
  let v67 : BitVec 32 := Scalar.addi v64 v66
  let v70 : BitVec 32 := Scalar.addi v67 v69
  let c4096_i32_16 : BitVec 32 := 4096#32
  let v71 : BitVec 1 := Scalar.cmpi .eq v70 c4096_i32_16
  let v_true : BitVec 1 := 1#1
  let v74 : BitVec 1 := Scalar.xori v71 v_true
  let v75 : BitVec 32 := Scalar.extui v74
  let c0_i32_18 : BitVec 32 := 0#32
  let v76 : BitVec 1 := Scalar.cmpi .ne v75 c0_i32_18
  v76

def k0_cond3 (v106 : BitVec 32) : BitVec 1 :=
  let c0_i32_43 : BitVec 32 := 0#32
  let v107 : BitVec 1 := Scalar.cmpi .eq v106 c0_i32_43
  let v112 : BitVec 32 := Scalar.extui v107
  let c0_i32_46 : BitVec 32 := 0#32
  let v113 : BitVec 1 := Scalar.cmpi .ne v112 c0_i32_46
  v113

def k0_off11 (v111 : BitVec 32) : Fin 2 → Nat :=
  let c0_i32_97 : BitVec 32 := 0#32
  let v250 : BitVec 1 := Scalar.cmpi .sgt v111 c0_i32_97
  let v251 : BitVec 32 := Scalar.extui v250
  let c0_i32_98 : BitVec 32 := 0#32
  let v252 : BitVec 1 := Scalar.cmpi .slt v111 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v111 c8_i32_96
  let c0_i32_101 : BitVec 32 := 0#32
  let v262 : BitVec 1 := Scalar.cmpi .ne v261 c0_i32_101
  let v263 : BitVec 1 := Scalar.andi v260 v262
  let v249 : BitVec 32 := Scalar.divsi v111 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v111 v266
  let v268 : Index := Scalar.indexCast v267
  let c0 : Index := 0#32
  ![v268.toNat, 0]
def k0_off12 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_44 : BitVec 32 := 16#32
  let v108 : BitVec 32 := Scalar.muli arg31 c16_i32_44
  let c0_i32_45 : BitVec 32 := 0#32
  let v109 : BitVec 32 := Scalar.addi v108 c0_i32_45
  let v271 : Index := Scalar.indexCast v109
  let c0_104 : Index := 0#32
  ![v271.toNat, 0]
def k0_off13 (v111 : BitVec 32) : Fin 2 → Nat :=
  let c0_i32_97 : BitVec 32 := 0#32
  let v250 : BitVec 1 := Scalar.cmpi .sgt v111 c0_i32_97
  let v251 : BitVec 32 := Scalar.extui v250
  let c0_i32_98 : BitVec 32 := 0#32
  let v252 : BitVec 1 := Scalar.cmpi .slt v111 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v111 c8_i32_96
  let c0_i32_101 : BitVec 32 := 0#32
  let v262 : BitVec 1 := Scalar.cmpi .ne v261 c0_i32_101
  let v263 : BitVec 1 := Scalar.andi v260 v262
  let v249 : BitVec 32 := Scalar.divsi v111 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v111 v266
  let v275 : Index := Scalar.indexCast v267
  let c16 : Index := 16#32
  ![v275.toNat, 16]
def k0_off14 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_44 : BitVec 32 := 16#32
  let v108 : BitVec 32 := Scalar.muli arg31 c16_i32_44
  let c0_i32_45 : BitVec 32 := 0#32
  let v109 : BitVec 32 := Scalar.addi v108 c0_i32_45
  let v278 : Index := Scalar.indexCast v109
  let c16_105 : Index := 16#32
  ![v278.toNat, 16]
def k0_off15 (v111 : BitVec 32) : Fin 2 → Nat :=
  let c0_i32_97 : BitVec 32 := 0#32
  let v250 : BitVec 1 := Scalar.cmpi .sgt v111 c0_i32_97
  let v251 : BitVec 32 := Scalar.extui v250
  let c0_i32_98 : BitVec 32 := 0#32
  let v252 : BitVec 1 := Scalar.cmpi .slt v111 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v111 c8_i32_96
  let c0_i32_101 : BitVec 32 := 0#32
  let v262 : BitVec 1 := Scalar.cmpi .ne v261 c0_i32_101
  let v263 : BitVec 1 := Scalar.andi v260 v262
  let v249 : BitVec 32 := Scalar.divsi v111 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v111 v266
  let v282 : Index := Scalar.indexCast v267
  let c32 : Index := 32#32
  ![v282.toNat, 32]
def k0_off16 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_44 : BitVec 32 := 16#32
  let v108 : BitVec 32 := Scalar.muli arg31 c16_i32_44
  let c0_i32_45 : BitVec 32 := 0#32
  let v109 : BitVec 32 := Scalar.addi v108 c0_i32_45
  let v285 : Index := Scalar.indexCast v109
  let c32_106 : Index := 32#32
  ![v285.toNat, 32]
def k0_off17 (v111 : BitVec 32) : Fin 2 → Nat :=
  let c0_i32_97 : BitVec 32 := 0#32
  let v250 : BitVec 1 := Scalar.cmpi .sgt v111 c0_i32_97
  let v251 : BitVec 32 := Scalar.extui v250
  let c0_i32_98 : BitVec 32 := 0#32
  let v252 : BitVec 1 := Scalar.cmpi .slt v111 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v111 c8_i32_96
  let c0_i32_101 : BitVec 32 := 0#32
  let v262 : BitVec 1 := Scalar.cmpi .ne v261 c0_i32_101
  let v263 : BitVec 1 := Scalar.andi v260 v262
  let v249 : BitVec 32 := Scalar.divsi v111 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v111 v266
  let v289 : Index := Scalar.indexCast v267
  let c48 : Index := 48#32
  ![v289.toNat, 48]

def k0_chk1 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) : Prop :=
  (∀ (k0_h2 : k0_cond2 v25 v27 v30 v33 v36 v39 v42 v45 v48 v51 v54 v57 v60 v63 v66 v69 = 1#1), ∀ (k0_h3 : k0_cond3 v106 = 1#1), ∀ a, (k0_off10 v111) a + S8x64.size a ≤ S8192x64.size a) ∧
  (∀ (k0_h2 : k0_cond2 v25 v27 v30 v33 v36 v39 v42 v45 v48 v51 v54 v57 v60 v63 v66 v69 = 1#1), ∀ (k0_h3 : k0_cond3 v106 = 1#1), ∀ a, (k0_off11 v111) a + S1x16.size a ≤ S8x64.size a) ∧
  (∀ (k0_h2 : k0_cond2 v25 v27 v30 v33 v36 v39 v42 v45 v48 v51 v54 v57 v60 v63 v66 v69 = 1#1), ∀ (k0_h3 : k0_cond3 v106 = 1#1), ∀ a, (k0_off13 v111) a + S1x16.size a ≤ S8x64.size a) ∧
  (∀ (k0_h2 : k0_cond2 v25 v27 v30 v33 v36 v39 v42 v45 v48 v51 v54 v57 v60 v63 v66 v69 = 1#1), ∀ (k0_h3 : k0_cond3 v106 = 1#1), ∀ a, (k0_off15 v111) a + S1x16.size a ≤ S8x64.size a) ∧
  (∀ (k0_h2 : k0_cond2 v25 v27 v30 v33 v36 v39 v42 v45 v48 v51 v54 v57 v60 v63 v66 v69 = 1#1), ∀ (k0_h3 : k0_cond3 v106 = 1#1), ∀ a, (k0_off17 v111) a + S1x16.size a ≤ S8x64.size a)
theorem k0_off10_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) (k0_hw1 : k0_chk1 v25 v27 v30 v33 v36 v39 v42 v45 v48 v51 v54 v57 v60 v63 v66 v69 v106 v111), ∀ (k0_h2 : k0_cond2 v25 v27 v30 v33 v36 v39 v42 v45 v48 v51 v54 v57 v60 v63 v66 v69 = 1#1), ∀ (k0_h3 : k0_cond3 v106 = 1#1), ∀ a, (k0_off10 v111) a + S8x64.size a ≤ S8192x64.size a := fun v25 v27 v30 v33 v36 v39 v42 v45 v48 v51 v54 v57 v60 v63 v66 v69 v106 v111 k0_hw1 k0_h2 k0_h3 => k0_hw1.1 k0_h2 k0_h3
theorem k0_off11_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) (k0_hw1 : k0_chk1 v25 v27 v30 v33 v36 v39 v42 v45 v48 v51 v54 v57 v60 v63 v66 v69 v106 v111), ∀ (k0_h2 : k0_cond2 v25 v27 v30 v33 v36 v39 v42 v45 v48 v51 v54 v57 v60 v63 v66 v69 = 1#1), ∀ (k0_h3 : k0_cond3 v106 = 1#1), ∀ a, (k0_off11 v111) a + S1x16.size a ≤ S8x64.size a := fun v25 v27 v30 v33 v36 v39 v42 v45 v48 v51 v54 v57 v60 v63 v66 v69 v106 v111 k0_hw1 k0_h2 k0_h3 => k0_hw1.2.1 k0_h2 k0_h3
theorem k0_off13_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) (k0_hw1 : k0_chk1 v25 v27 v30 v33 v36 v39 v42 v45 v48 v51 v54 v57 v60 v63 v66 v69 v106 v111), ∀ (k0_h2 : k0_cond2 v25 v27 v30 v33 v36 v39 v42 v45 v48 v51 v54 v57 v60 v63 v66 v69 = 1#1), ∀ (k0_h3 : k0_cond3 v106 = 1#1), ∀ a, (k0_off13 v111) a + S1x16.size a ≤ S8x64.size a := fun v25 v27 v30 v33 v36 v39 v42 v45 v48 v51 v54 v57 v60 v63 v66 v69 v106 v111 k0_hw1 k0_h2 k0_h3 => k0_hw1.2.2.1 k0_h2 k0_h3
theorem k0_off15_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) (k0_hw1 : k0_chk1 v25 v27 v30 v33 v36 v39 v42 v45 v48 v51 v54 v57 v60 v63 v66 v69 v106 v111), ∀ (k0_h2 : k0_cond2 v25 v27 v30 v33 v36 v39 v42 v45 v48 v51 v54 v57 v60 v63 v66 v69 = 1#1), ∀ (k0_h3 : k0_cond3 v106 = 1#1), ∀ a, (k0_off15 v111) a + S1x16.size a ≤ S8x64.size a := fun v25 v27 v30 v33 v36 v39 v42 v45 v48 v51 v54 v57 v60 v63 v66 v69 v106 v111 k0_hw1 k0_h2 k0_h3 => k0_hw1.2.2.2.1 k0_h2 k0_h3
theorem k0_off17_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v106 : BitVec 32) (v111 : BitVec 32) (k0_hw1 : k0_chk1 v25 v27 v30 v33 v36 v39 v42 v45 v48 v51 v54 v57 v60 v63 v66 v69 v106 v111), ∀ (k0_h2 : k0_cond2 v25 v27 v30 v33 v36 v39 v42 v45 v48 v51 v54 v57 v60 v63 v66 v69 = 1#1), ∀ (k0_h3 : k0_cond3 v106 = 1#1), ∀ a, (k0_off17 v111) a + S1x16.size a ≤ S8x64.size a := fun v25 v27 v30 v33 v36 v39 v42 v45 v48 v51 v54 v57 v60 v63 v66 v69 v106 v111 k0_hw1 k0_h2 k0_h3 => k0_hw1.2.2.2.2 k0_h2 k0_h3

def k0_off18 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_44 : BitVec 32 := 16#32
  let v108 : BitVec 32 := Scalar.muli arg31 c16_i32_44
  let c0_i32_45 : BitVec 32 := 0#32
  let v109 : BitVec 32 := Scalar.addi v108 c0_i32_45
  let v292 : Index := Scalar.indexCast v109
  let c48_107 : Index := 48#32
  ![v292.toNat, 48]
def k0_off19 (v120 : BitVec 32) : Fin 2 → Nat :=
  let c0_i32_97 : BitVec 32 := 0#32
  let v250 : BitVec 1 := Scalar.cmpi .sgt v120 c0_i32_97
  let v251 : BitVec 32 := Scalar.extui v250
  let c0_i32_98 : BitVec 32 := 0#32
  let v252 : BitVec 1 := Scalar.cmpi .slt v120 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v120 c8_i32_96
  let c0_i32_101 : BitVec 32 := 0#32
  let v262 : BitVec 1 := Scalar.cmpi .ne v261 c0_i32_101
  let v263 : BitVec 1 := Scalar.andi v260 v262
  let v249 : BitVec 32 := Scalar.divsi v120 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r4 : BitVec 32 := 0#32
  ![v266.toNat, 0]
def k0_cond4 (v115 : BitVec 32) : BitVec 1 :=
  let c0_i32_47 : BitVec 32 := 0#32
  let v116 : BitVec 1 := Scalar.cmpi .eq v115 c0_i32_47
  let v121 : BitVec 32 := Scalar.extui v116
  let c0_i32_50 : BitVec 32 := 0#32
  let v122 : BitVec 1 := Scalar.cmpi .ne v121 c0_i32_50
  v122

def k0_off20 (v120 : BitVec 32) : Fin 2 → Nat :=
  let c0_i32_97 : BitVec 32 := 0#32
  let v250 : BitVec 1 := Scalar.cmpi .sgt v120 c0_i32_97
  let v251 : BitVec 32 := Scalar.extui v250
  let c0_i32_98 : BitVec 32 := 0#32
  let v252 : BitVec 1 := Scalar.cmpi .slt v120 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v120 c8_i32_96
  let c0_i32_101 : BitVec 32 := 0#32
  let v262 : BitVec 1 := Scalar.cmpi .ne v261 c0_i32_101
  let v263 : BitVec 1 := Scalar.andi v260 v262
  let v249 : BitVec 32 := Scalar.divsi v120 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v120 v266
  let v268 : Index := Scalar.indexCast v267
  let c0 : Index := 0#32
  ![v268.toNat, 0]
def k0_off21 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_48 : BitVec 32 := 16#32
  let v117 : BitVec 32 := Scalar.muli arg31 c16_i32_48
  let c1_i32_49 : BitVec 32 := 1#32
  let v118 : BitVec 32 := Scalar.addi v117 c1_i32_49
  let v271 : Index := Scalar.indexCast v118
  let c0_104 : Index := 0#32
  ![v271.toNat, 0]
def k0_off22 (v120 : BitVec 32) : Fin 2 → Nat :=
  let c0_i32_97 : BitVec 32 := 0#32
  let v250 : BitVec 1 := Scalar.cmpi .sgt v120 c0_i32_97
  let v251 : BitVec 32 := Scalar.extui v250
  let c0_i32_98 : BitVec 32 := 0#32
  let v252 : BitVec 1 := Scalar.cmpi .slt v120 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v120 c8_i32_96
  let c0_i32_101 : BitVec 32 := 0#32
  let v262 : BitVec 1 := Scalar.cmpi .ne v261 c0_i32_101
  let v263 : BitVec 1 := Scalar.andi v260 v262
  let v249 : BitVec 32 := Scalar.divsi v120 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v120 v266
  let v275 : Index := Scalar.indexCast v267
  let c16 : Index := 16#32
  ![v275.toNat, 16]
def k0_off23 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_48 : BitVec 32 := 16#32
  let v117 : BitVec 32 := Scalar.muli arg31 c16_i32_48
  let c1_i32_49 : BitVec 32 := 1#32
  let v118 : BitVec 32 := Scalar.addi v117 c1_i32_49
  let v278 : Index := Scalar.indexCast v118
  let c16_105 : Index := 16#32
  ![v278.toNat, 16]
def k0_off24 (v120 : BitVec 32) : Fin 2 → Nat :=
  let c0_i32_97 : BitVec 32 := 0#32
  let v250 : BitVec 1 := Scalar.cmpi .sgt v120 c0_i32_97
  let v251 : BitVec 32 := Scalar.extui v250
  let c0_i32_98 : BitVec 32 := 0#32
  let v252 : BitVec 1 := Scalar.cmpi .slt v120 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v120 c8_i32_96
  let c0_i32_101 : BitVec 32 := 0#32
  let v262 : BitVec 1 := Scalar.cmpi .ne v261 c0_i32_101
  let v263 : BitVec 1 := Scalar.andi v260 v262
  let v249 : BitVec 32 := Scalar.divsi v120 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v120 v266
  let v282 : Index := Scalar.indexCast v267
  let c32 : Index := 32#32
  ![v282.toNat, 32]
def k0_off25 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_48 : BitVec 32 := 16#32
  let v117 : BitVec 32 := Scalar.muli arg31 c16_i32_48
  let c1_i32_49 : BitVec 32 := 1#32
  let v118 : BitVec 32 := Scalar.addi v117 c1_i32_49
  let v285 : Index := Scalar.indexCast v118
  let c32_106 : Index := 32#32
  ![v285.toNat, 32]
def k0_off26 (v120 : BitVec 32) : Fin 2 → Nat :=
  let c0_i32_97 : BitVec 32 := 0#32
  let v250 : BitVec 1 := Scalar.cmpi .sgt v120 c0_i32_97
  let v251 : BitVec 32 := Scalar.extui v250
  let c0_i32_98 : BitVec 32 := 0#32
  let v252 : BitVec 1 := Scalar.cmpi .slt v120 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v120 c8_i32_96
  let c0_i32_101 : BitVec 32 := 0#32
  let v262 : BitVec 1 := Scalar.cmpi .ne v261 c0_i32_101
  let v263 : BitVec 1 := Scalar.andi v260 v262
  let v249 : BitVec 32 := Scalar.divsi v120 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v120 v266
  let v289 : Index := Scalar.indexCast v267
  let c48 : Index := 48#32
  ![v289.toNat, 48]

def k0_chk2 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) : Prop :=
  (∀ (k0_h2 : k0_cond2 v25 v27 v30 v33 v36 v39 v42 v45 v48 v51 v54 v57 v60 v63 v66 v69 = 1#1), ∀ (k0_h4 : k0_cond4 v115 = 1#1), ∀ a, (k0_off19 v120) a + S8x64.size a ≤ S8192x64.size a) ∧
  (∀ (k0_h2 : k0_cond2 v25 v27 v30 v33 v36 v39 v42 v45 v48 v51 v54 v57 v60 v63 v66 v69 = 1#1), ∀ (k0_h4 : k0_cond4 v115 = 1#1), ∀ a, (k0_off20 v120) a + S1x16.size a ≤ S8x64.size a) ∧
  (∀ (k0_h2 : k0_cond2 v25 v27 v30 v33 v36 v39 v42 v45 v48 v51 v54 v57 v60 v63 v66 v69 = 1#1), ∀ (k0_h4 : k0_cond4 v115 = 1#1), ∀ a, (k0_off22 v120) a + S1x16.size a ≤ S8x64.size a) ∧
  (∀ (k0_h2 : k0_cond2 v25 v27 v30 v33 v36 v39 v42 v45 v48 v51 v54 v57 v60 v63 v66 v69 = 1#1), ∀ (k0_h4 : k0_cond4 v115 = 1#1), ∀ a, (k0_off24 v120) a + S1x16.size a ≤ S8x64.size a) ∧
  (∀ (k0_h2 : k0_cond2 v25 v27 v30 v33 v36 v39 v42 v45 v48 v51 v54 v57 v60 v63 v66 v69 = 1#1), ∀ (k0_h4 : k0_cond4 v115 = 1#1), ∀ a, (k0_off26 v120) a + S1x16.size a ≤ S8x64.size a)
theorem k0_off19_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) (k0_hw2 : k0_chk2 v25 v27 v30 v33 v36 v39 v42 v45 v48 v51 v54 v57 v60 v63 v66 v69 v115 v120), ∀ (k0_h2 : k0_cond2 v25 v27 v30 v33 v36 v39 v42 v45 v48 v51 v54 v57 v60 v63 v66 v69 = 1#1), ∀ (k0_h4 : k0_cond4 v115 = 1#1), ∀ a, (k0_off19 v120) a + S8x64.size a ≤ S8192x64.size a := fun v25 v27 v30 v33 v36 v39 v42 v45 v48 v51 v54 v57 v60 v63 v66 v69 v115 v120 k0_hw2 k0_h2 k0_h4 => k0_hw2.1 k0_h2 k0_h4
theorem k0_off20_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) (k0_hw2 : k0_chk2 v25 v27 v30 v33 v36 v39 v42 v45 v48 v51 v54 v57 v60 v63 v66 v69 v115 v120), ∀ (k0_h2 : k0_cond2 v25 v27 v30 v33 v36 v39 v42 v45 v48 v51 v54 v57 v60 v63 v66 v69 = 1#1), ∀ (k0_h4 : k0_cond4 v115 = 1#1), ∀ a, (k0_off20 v120) a + S1x16.size a ≤ S8x64.size a := fun v25 v27 v30 v33 v36 v39 v42 v45 v48 v51 v54 v57 v60 v63 v66 v69 v115 v120 k0_hw2 k0_h2 k0_h4 => k0_hw2.2.1 k0_h2 k0_h4
theorem k0_off22_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) (k0_hw2 : k0_chk2 v25 v27 v30 v33 v36 v39 v42 v45 v48 v51 v54 v57 v60 v63 v66 v69 v115 v120), ∀ (k0_h2 : k0_cond2 v25 v27 v30 v33 v36 v39 v42 v45 v48 v51 v54 v57 v60 v63 v66 v69 = 1#1), ∀ (k0_h4 : k0_cond4 v115 = 1#1), ∀ a, (k0_off22 v120) a + S1x16.size a ≤ S8x64.size a := fun v25 v27 v30 v33 v36 v39 v42 v45 v48 v51 v54 v57 v60 v63 v66 v69 v115 v120 k0_hw2 k0_h2 k0_h4 => k0_hw2.2.2.1 k0_h2 k0_h4
theorem k0_off24_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) (k0_hw2 : k0_chk2 v25 v27 v30 v33 v36 v39 v42 v45 v48 v51 v54 v57 v60 v63 v66 v69 v115 v120), ∀ (k0_h2 : k0_cond2 v25 v27 v30 v33 v36 v39 v42 v45 v48 v51 v54 v57 v60 v63 v66 v69 = 1#1), ∀ (k0_h4 : k0_cond4 v115 = 1#1), ∀ a, (k0_off24 v120) a + S1x16.size a ≤ S8x64.size a := fun v25 v27 v30 v33 v36 v39 v42 v45 v48 v51 v54 v57 v60 v63 v66 v69 v115 v120 k0_hw2 k0_h2 k0_h4 => k0_hw2.2.2.2.1 k0_h2 k0_h4
theorem k0_off26_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v115 : BitVec 32) (v120 : BitVec 32) (k0_hw2 : k0_chk2 v25 v27 v30 v33 v36 v39 v42 v45 v48 v51 v54 v57 v60 v63 v66 v69 v115 v120), ∀ (k0_h2 : k0_cond2 v25 v27 v30 v33 v36 v39 v42 v45 v48 v51 v54 v57 v60 v63 v66 v69 = 1#1), ∀ (k0_h4 : k0_cond4 v115 = 1#1), ∀ a, (k0_off26 v120) a + S1x16.size a ≤ S8x64.size a := fun v25 v27 v30 v33 v36 v39 v42 v45 v48 v51 v54 v57 v60 v63 v66 v69 v115 v120 k0_hw2 k0_h2 k0_h4 => k0_hw2.2.2.2.2 k0_h2 k0_h4

def k0_off27 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_48 : BitVec 32 := 16#32
  let v117 : BitVec 32 := Scalar.muli arg31 c16_i32_48
  let c1_i32_49 : BitVec 32 := 1#32
  let v118 : BitVec 32 := Scalar.addi v117 c1_i32_49
  let v292 : Index := Scalar.indexCast v118
  let c48_107 : Index := 48#32
  ![v292.toNat, 48]
def k0_off28 (v129 : BitVec 32) : Fin 2 → Nat :=
  let c0_i32_97 : BitVec 32 := 0#32
  let v250 : BitVec 1 := Scalar.cmpi .sgt v129 c0_i32_97
  let v251 : BitVec 32 := Scalar.extui v250
  let c0_i32_98 : BitVec 32 := 0#32
  let v252 : BitVec 1 := Scalar.cmpi .slt v129 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v129 c8_i32_96
  let c0_i32_101 : BitVec 32 := 0#32
  let v262 : BitVec 1 := Scalar.cmpi .ne v261 c0_i32_101
  let v263 : BitVec 1 := Scalar.andi v260 v262
  let v249 : BitVec 32 := Scalar.divsi v129 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r5 : BitVec 32 := 0#32
  ![v266.toNat, 0]
def k0_cond5 (v124 : BitVec 32) : BitVec 1 :=
  let c0_i32_51 : BitVec 32 := 0#32
  let v125 : BitVec 1 := Scalar.cmpi .eq v124 c0_i32_51
  let v130 : BitVec 32 := Scalar.extui v125
  let c0_i32_54 : BitVec 32 := 0#32
  let v131 : BitVec 1 := Scalar.cmpi .ne v130 c0_i32_54
  v131

def k0_off29 (v129 : BitVec 32) : Fin 2 → Nat :=
  let c0_i32_97 : BitVec 32 := 0#32
  let v250 : BitVec 1 := Scalar.cmpi .sgt v129 c0_i32_97
  let v251 : BitVec 32 := Scalar.extui v250
  let c0_i32_98 : BitVec 32 := 0#32
  let v252 : BitVec 1 := Scalar.cmpi .slt v129 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v129 c8_i32_96
  let c0_i32_101 : BitVec 32 := 0#32
  let v262 : BitVec 1 := Scalar.cmpi .ne v261 c0_i32_101
  let v263 : BitVec 1 := Scalar.andi v260 v262
  let v249 : BitVec 32 := Scalar.divsi v129 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v129 v266
  let v268 : Index := Scalar.indexCast v267
  let c0 : Index := 0#32
  ![v268.toNat, 0]
def k0_off30 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_52 : BitVec 32 := 16#32
  let v126 : BitVec 32 := Scalar.muli arg31 c16_i32_52
  let c2_i32_53 : BitVec 32 := 2#32
  let v127 : BitVec 32 := Scalar.addi v126 c2_i32_53
  let v271 : Index := Scalar.indexCast v127
  let c0_104 : Index := 0#32
  ![v271.toNat, 0]
def k0_off31 (v129 : BitVec 32) : Fin 2 → Nat :=
  let c0_i32_97 : BitVec 32 := 0#32
  let v250 : BitVec 1 := Scalar.cmpi .sgt v129 c0_i32_97
  let v251 : BitVec 32 := Scalar.extui v250
  let c0_i32_98 : BitVec 32 := 0#32
  let v252 : BitVec 1 := Scalar.cmpi .slt v129 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v129 c8_i32_96
  let c0_i32_101 : BitVec 32 := 0#32
  let v262 : BitVec 1 := Scalar.cmpi .ne v261 c0_i32_101
  let v263 : BitVec 1 := Scalar.andi v260 v262
  let v249 : BitVec 32 := Scalar.divsi v129 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v129 v266
  let v275 : Index := Scalar.indexCast v267
  let c16 : Index := 16#32
  ![v275.toNat, 16]
def k0_off32 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_52 : BitVec 32 := 16#32
  let v126 : BitVec 32 := Scalar.muli arg31 c16_i32_52
  let c2_i32_53 : BitVec 32 := 2#32
  let v127 : BitVec 32 := Scalar.addi v126 c2_i32_53
  let v278 : Index := Scalar.indexCast v127
  let c16_105 : Index := 16#32
  ![v278.toNat, 16]
def k0_off33 (v129 : BitVec 32) : Fin 2 → Nat :=
  let c0_i32_97 : BitVec 32 := 0#32
  let v250 : BitVec 1 := Scalar.cmpi .sgt v129 c0_i32_97
  let v251 : BitVec 32 := Scalar.extui v250
  let c0_i32_98 : BitVec 32 := 0#32
  let v252 : BitVec 1 := Scalar.cmpi .slt v129 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v129 c8_i32_96
  let c0_i32_101 : BitVec 32 := 0#32
  let v262 : BitVec 1 := Scalar.cmpi .ne v261 c0_i32_101
  let v263 : BitVec 1 := Scalar.andi v260 v262
  let v249 : BitVec 32 := Scalar.divsi v129 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v129 v266
  let v282 : Index := Scalar.indexCast v267
  let c32 : Index := 32#32
  ![v282.toNat, 32]
def k0_off34 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_52 : BitVec 32 := 16#32
  let v126 : BitVec 32 := Scalar.muli arg31 c16_i32_52
  let c2_i32_53 : BitVec 32 := 2#32
  let v127 : BitVec 32 := Scalar.addi v126 c2_i32_53
  let v285 : Index := Scalar.indexCast v127
  let c32_106 : Index := 32#32
  ![v285.toNat, 32]
def k0_off35 (v129 : BitVec 32) : Fin 2 → Nat :=
  let c0_i32_97 : BitVec 32 := 0#32
  let v250 : BitVec 1 := Scalar.cmpi .sgt v129 c0_i32_97
  let v251 : BitVec 32 := Scalar.extui v250
  let c0_i32_98 : BitVec 32 := 0#32
  let v252 : BitVec 1 := Scalar.cmpi .slt v129 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v129 c8_i32_96
  let c0_i32_101 : BitVec 32 := 0#32
  let v262 : BitVec 1 := Scalar.cmpi .ne v261 c0_i32_101
  let v263 : BitVec 1 := Scalar.andi v260 v262
  let v249 : BitVec 32 := Scalar.divsi v129 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v129 v266
  let v289 : Index := Scalar.indexCast v267
  let c48 : Index := 48#32
  ![v289.toNat, 48]

def k0_chk3 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) : Prop :=
  (∀ (k0_h2 : k0_cond2 v25 v27 v30 v33 v36 v39 v42 v45 v48 v51 v54 v57 v60 v63 v66 v69 = 1#1), ∀ (k0_h5 : k0_cond5 v124 = 1#1), ∀ a, (k0_off28 v129) a + S8x64.size a ≤ S8192x64.size a) ∧
  (∀ (k0_h2 : k0_cond2 v25 v27 v30 v33 v36 v39 v42 v45 v48 v51 v54 v57 v60 v63 v66 v69 = 1#1), ∀ (k0_h5 : k0_cond5 v124 = 1#1), ∀ a, (k0_off29 v129) a + S1x16.size a ≤ S8x64.size a) ∧
  (∀ (k0_h2 : k0_cond2 v25 v27 v30 v33 v36 v39 v42 v45 v48 v51 v54 v57 v60 v63 v66 v69 = 1#1), ∀ (k0_h5 : k0_cond5 v124 = 1#1), ∀ a, (k0_off31 v129) a + S1x16.size a ≤ S8x64.size a) ∧
  (∀ (k0_h2 : k0_cond2 v25 v27 v30 v33 v36 v39 v42 v45 v48 v51 v54 v57 v60 v63 v66 v69 = 1#1), ∀ (k0_h5 : k0_cond5 v124 = 1#1), ∀ a, (k0_off33 v129) a + S1x16.size a ≤ S8x64.size a) ∧
  (∀ (k0_h2 : k0_cond2 v25 v27 v30 v33 v36 v39 v42 v45 v48 v51 v54 v57 v60 v63 v66 v69 = 1#1), ∀ (k0_h5 : k0_cond5 v124 = 1#1), ∀ a, (k0_off35 v129) a + S1x16.size a ≤ S8x64.size a)
theorem k0_off28_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) (k0_hw3 : k0_chk3 v25 v27 v30 v33 v36 v39 v42 v45 v48 v51 v54 v57 v60 v63 v66 v69 v124 v129), ∀ (k0_h2 : k0_cond2 v25 v27 v30 v33 v36 v39 v42 v45 v48 v51 v54 v57 v60 v63 v66 v69 = 1#1), ∀ (k0_h5 : k0_cond5 v124 = 1#1), ∀ a, (k0_off28 v129) a + S8x64.size a ≤ S8192x64.size a := fun v25 v27 v30 v33 v36 v39 v42 v45 v48 v51 v54 v57 v60 v63 v66 v69 v124 v129 k0_hw3 k0_h2 k0_h5 => k0_hw3.1 k0_h2 k0_h5
theorem k0_off29_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) (k0_hw3 : k0_chk3 v25 v27 v30 v33 v36 v39 v42 v45 v48 v51 v54 v57 v60 v63 v66 v69 v124 v129), ∀ (k0_h2 : k0_cond2 v25 v27 v30 v33 v36 v39 v42 v45 v48 v51 v54 v57 v60 v63 v66 v69 = 1#1), ∀ (k0_h5 : k0_cond5 v124 = 1#1), ∀ a, (k0_off29 v129) a + S1x16.size a ≤ S8x64.size a := fun v25 v27 v30 v33 v36 v39 v42 v45 v48 v51 v54 v57 v60 v63 v66 v69 v124 v129 k0_hw3 k0_h2 k0_h5 => k0_hw3.2.1 k0_h2 k0_h5
theorem k0_off31_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) (k0_hw3 : k0_chk3 v25 v27 v30 v33 v36 v39 v42 v45 v48 v51 v54 v57 v60 v63 v66 v69 v124 v129), ∀ (k0_h2 : k0_cond2 v25 v27 v30 v33 v36 v39 v42 v45 v48 v51 v54 v57 v60 v63 v66 v69 = 1#1), ∀ (k0_h5 : k0_cond5 v124 = 1#1), ∀ a, (k0_off31 v129) a + S1x16.size a ≤ S8x64.size a := fun v25 v27 v30 v33 v36 v39 v42 v45 v48 v51 v54 v57 v60 v63 v66 v69 v124 v129 k0_hw3 k0_h2 k0_h5 => k0_hw3.2.2.1 k0_h2 k0_h5
theorem k0_off33_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) (k0_hw3 : k0_chk3 v25 v27 v30 v33 v36 v39 v42 v45 v48 v51 v54 v57 v60 v63 v66 v69 v124 v129), ∀ (k0_h2 : k0_cond2 v25 v27 v30 v33 v36 v39 v42 v45 v48 v51 v54 v57 v60 v63 v66 v69 = 1#1), ∀ (k0_h5 : k0_cond5 v124 = 1#1), ∀ a, (k0_off33 v129) a + S1x16.size a ≤ S8x64.size a := fun v25 v27 v30 v33 v36 v39 v42 v45 v48 v51 v54 v57 v60 v63 v66 v69 v124 v129 k0_hw3 k0_h2 k0_h5 => k0_hw3.2.2.2.1 k0_h2 k0_h5
theorem k0_off35_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v124 : BitVec 32) (v129 : BitVec 32) (k0_hw3 : k0_chk3 v25 v27 v30 v33 v36 v39 v42 v45 v48 v51 v54 v57 v60 v63 v66 v69 v124 v129), ∀ (k0_h2 : k0_cond2 v25 v27 v30 v33 v36 v39 v42 v45 v48 v51 v54 v57 v60 v63 v66 v69 = 1#1), ∀ (k0_h5 : k0_cond5 v124 = 1#1), ∀ a, (k0_off35 v129) a + S1x16.size a ≤ S8x64.size a := fun v25 v27 v30 v33 v36 v39 v42 v45 v48 v51 v54 v57 v60 v63 v66 v69 v124 v129 k0_hw3 k0_h2 k0_h5 => k0_hw3.2.2.2.2 k0_h2 k0_h5

def k0_off36 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_52 : BitVec 32 := 16#32
  let v126 : BitVec 32 := Scalar.muli arg31 c16_i32_52
  let c2_i32_53 : BitVec 32 := 2#32
  let v127 : BitVec 32 := Scalar.addi v126 c2_i32_53
  let v292 : Index := Scalar.indexCast v127
  let c48_107 : Index := 48#32
  ![v292.toNat, 48]
def k0_off37 (v138 : BitVec 32) : Fin 2 → Nat :=
  let c0_i32_97 : BitVec 32 := 0#32
  let v250 : BitVec 1 := Scalar.cmpi .sgt v138 c0_i32_97
  let v251 : BitVec 32 := Scalar.extui v250
  let c0_i32_98 : BitVec 32 := 0#32
  let v252 : BitVec 1 := Scalar.cmpi .slt v138 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v138 c8_i32_96
  let c0_i32_101 : BitVec 32 := 0#32
  let v262 : BitVec 1 := Scalar.cmpi .ne v261 c0_i32_101
  let v263 : BitVec 1 := Scalar.andi v260 v262
  let v249 : BitVec 32 := Scalar.divsi v138 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r6 : BitVec 32 := 0#32
  ![v266.toNat, 0]
def k0_cond6 (v133 : BitVec 32) : BitVec 1 :=
  let c0_i32_55 : BitVec 32 := 0#32
  let v134 : BitVec 1 := Scalar.cmpi .eq v133 c0_i32_55
  let v139 : BitVec 32 := Scalar.extui v134
  let c0_i32_57 : BitVec 32 := 0#32
  let v140 : BitVec 1 := Scalar.cmpi .ne v139 c0_i32_57
  v140

def k0_off38 (v138 : BitVec 32) : Fin 2 → Nat :=
  let c0_i32_97 : BitVec 32 := 0#32
  let v250 : BitVec 1 := Scalar.cmpi .sgt v138 c0_i32_97
  let v251 : BitVec 32 := Scalar.extui v250
  let c0_i32_98 : BitVec 32 := 0#32
  let v252 : BitVec 1 := Scalar.cmpi .slt v138 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v138 c8_i32_96
  let c0_i32_101 : BitVec 32 := 0#32
  let v262 : BitVec 1 := Scalar.cmpi .ne v261 c0_i32_101
  let v263 : BitVec 1 := Scalar.andi v260 v262
  let v249 : BitVec 32 := Scalar.divsi v138 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v138 v266
  let v268 : Index := Scalar.indexCast v267
  let c0 : Index := 0#32
  ![v268.toNat, 0]
def k0_off39 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_56 : BitVec 32 := 16#32
  let v135 : BitVec 32 := Scalar.muli arg31 c16_i32_56
  let c3_i32 : BitVec 32 := 3#32
  let v136 : BitVec 32 := Scalar.addi v135 c3_i32
  let v271 : Index := Scalar.indexCast v136
  let c0_104 : Index := 0#32
  ![v271.toNat, 0]
def k0_off40 (v138 : BitVec 32) : Fin 2 → Nat :=
  let c0_i32_97 : BitVec 32 := 0#32
  let v250 : BitVec 1 := Scalar.cmpi .sgt v138 c0_i32_97
  let v251 : BitVec 32 := Scalar.extui v250
  let c0_i32_98 : BitVec 32 := 0#32
  let v252 : BitVec 1 := Scalar.cmpi .slt v138 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v138 c8_i32_96
  let c0_i32_101 : BitVec 32 := 0#32
  let v262 : BitVec 1 := Scalar.cmpi .ne v261 c0_i32_101
  let v263 : BitVec 1 := Scalar.andi v260 v262
  let v249 : BitVec 32 := Scalar.divsi v138 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v138 v266
  let v275 : Index := Scalar.indexCast v267
  let c16 : Index := 16#32
  ![v275.toNat, 16]
def k0_off41 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_56 : BitVec 32 := 16#32
  let v135 : BitVec 32 := Scalar.muli arg31 c16_i32_56
  let c3_i32 : BitVec 32 := 3#32
  let v136 : BitVec 32 := Scalar.addi v135 c3_i32
  let v278 : Index := Scalar.indexCast v136
  let c16_105 : Index := 16#32
  ![v278.toNat, 16]
def k0_off42 (v138 : BitVec 32) : Fin 2 → Nat :=
  let c0_i32_97 : BitVec 32 := 0#32
  let v250 : BitVec 1 := Scalar.cmpi .sgt v138 c0_i32_97
  let v251 : BitVec 32 := Scalar.extui v250
  let c0_i32_98 : BitVec 32 := 0#32
  let v252 : BitVec 1 := Scalar.cmpi .slt v138 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v138 c8_i32_96
  let c0_i32_101 : BitVec 32 := 0#32
  let v262 : BitVec 1 := Scalar.cmpi .ne v261 c0_i32_101
  let v263 : BitVec 1 := Scalar.andi v260 v262
  let v249 : BitVec 32 := Scalar.divsi v138 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v138 v266
  let v282 : Index := Scalar.indexCast v267
  let c32 : Index := 32#32
  ![v282.toNat, 32]
def k0_off43 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_56 : BitVec 32 := 16#32
  let v135 : BitVec 32 := Scalar.muli arg31 c16_i32_56
  let c3_i32 : BitVec 32 := 3#32
  let v136 : BitVec 32 := Scalar.addi v135 c3_i32
  let v285 : Index := Scalar.indexCast v136
  let c32_106 : Index := 32#32
  ![v285.toNat, 32]
def k0_off44 (v138 : BitVec 32) : Fin 2 → Nat :=
  let c0_i32_97 : BitVec 32 := 0#32
  let v250 : BitVec 1 := Scalar.cmpi .sgt v138 c0_i32_97
  let v251 : BitVec 32 := Scalar.extui v250
  let c0_i32_98 : BitVec 32 := 0#32
  let v252 : BitVec 1 := Scalar.cmpi .slt v138 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v138 c8_i32_96
  let c0_i32_101 : BitVec 32 := 0#32
  let v262 : BitVec 1 := Scalar.cmpi .ne v261 c0_i32_101
  let v263 : BitVec 1 := Scalar.andi v260 v262
  let v249 : BitVec 32 := Scalar.divsi v138 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v138 v266
  let v289 : Index := Scalar.indexCast v267
  let c48 : Index := 48#32
  ![v289.toNat, 48]

def k0_chk4 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) : Prop :=
  (∀ (k0_h2 : k0_cond2 v25 v27 v30 v33 v36 v39 v42 v45 v48 v51 v54 v57 v60 v63 v66 v69 = 1#1), ∀ (k0_h6 : k0_cond6 v133 = 1#1), ∀ a, (k0_off37 v138) a + S8x64.size a ≤ S8192x64.size a) ∧
  (∀ (k0_h2 : k0_cond2 v25 v27 v30 v33 v36 v39 v42 v45 v48 v51 v54 v57 v60 v63 v66 v69 = 1#1), ∀ (k0_h6 : k0_cond6 v133 = 1#1), ∀ a, (k0_off38 v138) a + S1x16.size a ≤ S8x64.size a) ∧
  (∀ (k0_h2 : k0_cond2 v25 v27 v30 v33 v36 v39 v42 v45 v48 v51 v54 v57 v60 v63 v66 v69 = 1#1), ∀ (k0_h6 : k0_cond6 v133 = 1#1), ∀ a, (k0_off40 v138) a + S1x16.size a ≤ S8x64.size a) ∧
  (∀ (k0_h2 : k0_cond2 v25 v27 v30 v33 v36 v39 v42 v45 v48 v51 v54 v57 v60 v63 v66 v69 = 1#1), ∀ (k0_h6 : k0_cond6 v133 = 1#1), ∀ a, (k0_off42 v138) a + S1x16.size a ≤ S8x64.size a) ∧
  (∀ (k0_h2 : k0_cond2 v25 v27 v30 v33 v36 v39 v42 v45 v48 v51 v54 v57 v60 v63 v66 v69 = 1#1), ∀ (k0_h6 : k0_cond6 v133 = 1#1), ∀ a, (k0_off44 v138) a + S1x16.size a ≤ S8x64.size a)
theorem k0_off37_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) (k0_hw4 : k0_chk4 v25 v27 v30 v33 v36 v39 v42 v45 v48 v51 v54 v57 v60 v63 v66 v69 v133 v138), ∀ (k0_h2 : k0_cond2 v25 v27 v30 v33 v36 v39 v42 v45 v48 v51 v54 v57 v60 v63 v66 v69 = 1#1), ∀ (k0_h6 : k0_cond6 v133 = 1#1), ∀ a, (k0_off37 v138) a + S8x64.size a ≤ S8192x64.size a := fun v25 v27 v30 v33 v36 v39 v42 v45 v48 v51 v54 v57 v60 v63 v66 v69 v133 v138 k0_hw4 k0_h2 k0_h6 => k0_hw4.1 k0_h2 k0_h6
theorem k0_off38_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) (k0_hw4 : k0_chk4 v25 v27 v30 v33 v36 v39 v42 v45 v48 v51 v54 v57 v60 v63 v66 v69 v133 v138), ∀ (k0_h2 : k0_cond2 v25 v27 v30 v33 v36 v39 v42 v45 v48 v51 v54 v57 v60 v63 v66 v69 = 1#1), ∀ (k0_h6 : k0_cond6 v133 = 1#1), ∀ a, (k0_off38 v138) a + S1x16.size a ≤ S8x64.size a := fun v25 v27 v30 v33 v36 v39 v42 v45 v48 v51 v54 v57 v60 v63 v66 v69 v133 v138 k0_hw4 k0_h2 k0_h6 => k0_hw4.2.1 k0_h2 k0_h6
theorem k0_off40_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) (k0_hw4 : k0_chk4 v25 v27 v30 v33 v36 v39 v42 v45 v48 v51 v54 v57 v60 v63 v66 v69 v133 v138), ∀ (k0_h2 : k0_cond2 v25 v27 v30 v33 v36 v39 v42 v45 v48 v51 v54 v57 v60 v63 v66 v69 = 1#1), ∀ (k0_h6 : k0_cond6 v133 = 1#1), ∀ a, (k0_off40 v138) a + S1x16.size a ≤ S8x64.size a := fun v25 v27 v30 v33 v36 v39 v42 v45 v48 v51 v54 v57 v60 v63 v66 v69 v133 v138 k0_hw4 k0_h2 k0_h6 => k0_hw4.2.2.1 k0_h2 k0_h6
theorem k0_off42_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) (k0_hw4 : k0_chk4 v25 v27 v30 v33 v36 v39 v42 v45 v48 v51 v54 v57 v60 v63 v66 v69 v133 v138), ∀ (k0_h2 : k0_cond2 v25 v27 v30 v33 v36 v39 v42 v45 v48 v51 v54 v57 v60 v63 v66 v69 = 1#1), ∀ (k0_h6 : k0_cond6 v133 = 1#1), ∀ a, (k0_off42 v138) a + S1x16.size a ≤ S8x64.size a := fun v25 v27 v30 v33 v36 v39 v42 v45 v48 v51 v54 v57 v60 v63 v66 v69 v133 v138 k0_hw4 k0_h2 k0_h6 => k0_hw4.2.2.2.1 k0_h2 k0_h6
theorem k0_off44_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v133 : BitVec 32) (v138 : BitVec 32) (k0_hw4 : k0_chk4 v25 v27 v30 v33 v36 v39 v42 v45 v48 v51 v54 v57 v60 v63 v66 v69 v133 v138), ∀ (k0_h2 : k0_cond2 v25 v27 v30 v33 v36 v39 v42 v45 v48 v51 v54 v57 v60 v63 v66 v69 = 1#1), ∀ (k0_h6 : k0_cond6 v133 = 1#1), ∀ a, (k0_off44 v138) a + S1x16.size a ≤ S8x64.size a := fun v25 v27 v30 v33 v36 v39 v42 v45 v48 v51 v54 v57 v60 v63 v66 v69 v133 v138 k0_hw4 k0_h2 k0_h6 => k0_hw4.2.2.2.2 k0_h2 k0_h6

def k0_off45 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_56 : BitVec 32 := 16#32
  let v135 : BitVec 32 := Scalar.muli arg31 c16_i32_56
  let c3_i32 : BitVec 32 := 3#32
  let v136 : BitVec 32 := Scalar.addi v135 c3_i32
  let v292 : Index := Scalar.indexCast v136
  let c48_107 : Index := 48#32
  ![v292.toNat, 48]
def k0_off46 (v147 : BitVec 32) : Fin 2 → Nat :=
  let c0_i32_97 : BitVec 32 := 0#32
  let v250 : BitVec 1 := Scalar.cmpi .sgt v147 c0_i32_97
  let v251 : BitVec 32 := Scalar.extui v250
  let c0_i32_98 : BitVec 32 := 0#32
  let v252 : BitVec 1 := Scalar.cmpi .slt v147 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v147 c8_i32_96
  let c0_i32_101 : BitVec 32 := 0#32
  let v262 : BitVec 1 := Scalar.cmpi .ne v261 c0_i32_101
  let v263 : BitVec 1 := Scalar.andi v260 v262
  let v249 : BitVec 32 := Scalar.divsi v147 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r7 : BitVec 32 := 0#32
  ![v266.toNat, 0]
def k0_cond7 (v142 : BitVec 32) : BitVec 1 :=
  let c0_i32_58 : BitVec 32 := 0#32
  let v143 : BitVec 1 := Scalar.cmpi .eq v142 c0_i32_58
  let v148 : BitVec 32 := Scalar.extui v143
  let c0_i32_60 : BitVec 32 := 0#32
  let v149 : BitVec 1 := Scalar.cmpi .ne v148 c0_i32_60
  v149

def k0_off47 (v147 : BitVec 32) : Fin 2 → Nat :=
  let c0_i32_97 : BitVec 32 := 0#32
  let v250 : BitVec 1 := Scalar.cmpi .sgt v147 c0_i32_97
  let v251 : BitVec 32 := Scalar.extui v250
  let c0_i32_98 : BitVec 32 := 0#32
  let v252 : BitVec 1 := Scalar.cmpi .slt v147 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v147 c8_i32_96
  let c0_i32_101 : BitVec 32 := 0#32
  let v262 : BitVec 1 := Scalar.cmpi .ne v261 c0_i32_101
  let v263 : BitVec 1 := Scalar.andi v260 v262
  let v249 : BitVec 32 := Scalar.divsi v147 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v147 v266
  let v268 : Index := Scalar.indexCast v267
  let c0 : Index := 0#32
  ![v268.toNat, 0]
def k0_off48 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_59 : BitVec 32 := 16#32
  let v144 : BitVec 32 := Scalar.muli arg31 c16_i32_59
  let c4_i32 : BitVec 32 := 4#32
  let v145 : BitVec 32 := Scalar.addi v144 c4_i32
  let v271 : Index := Scalar.indexCast v145
  let c0_104 : Index := 0#32
  ![v271.toNat, 0]
def k0_off49 (v147 : BitVec 32) : Fin 2 → Nat :=
  let c0_i32_97 : BitVec 32 := 0#32
  let v250 : BitVec 1 := Scalar.cmpi .sgt v147 c0_i32_97
  let v251 : BitVec 32 := Scalar.extui v250
  let c0_i32_98 : BitVec 32 := 0#32
  let v252 : BitVec 1 := Scalar.cmpi .slt v147 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v147 c8_i32_96
  let c0_i32_101 : BitVec 32 := 0#32
  let v262 : BitVec 1 := Scalar.cmpi .ne v261 c0_i32_101
  let v263 : BitVec 1 := Scalar.andi v260 v262
  let v249 : BitVec 32 := Scalar.divsi v147 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v147 v266
  let v275 : Index := Scalar.indexCast v267
  let c16 : Index := 16#32
  ![v275.toNat, 16]
def k0_off50 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_59 : BitVec 32 := 16#32
  let v144 : BitVec 32 := Scalar.muli arg31 c16_i32_59
  let c4_i32 : BitVec 32 := 4#32
  let v145 : BitVec 32 := Scalar.addi v144 c4_i32
  let v278 : Index := Scalar.indexCast v145
  let c16_105 : Index := 16#32
  ![v278.toNat, 16]
def k0_off51 (v147 : BitVec 32) : Fin 2 → Nat :=
  let c0_i32_97 : BitVec 32 := 0#32
  let v250 : BitVec 1 := Scalar.cmpi .sgt v147 c0_i32_97
  let v251 : BitVec 32 := Scalar.extui v250
  let c0_i32_98 : BitVec 32 := 0#32
  let v252 : BitVec 1 := Scalar.cmpi .slt v147 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v147 c8_i32_96
  let c0_i32_101 : BitVec 32 := 0#32
  let v262 : BitVec 1 := Scalar.cmpi .ne v261 c0_i32_101
  let v263 : BitVec 1 := Scalar.andi v260 v262
  let v249 : BitVec 32 := Scalar.divsi v147 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v147 v266
  let v282 : Index := Scalar.indexCast v267
  let c32 : Index := 32#32
  ![v282.toNat, 32]
def k0_off52 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_59 : BitVec 32 := 16#32
  let v144 : BitVec 32 := Scalar.muli arg31 c16_i32_59
  let c4_i32 : BitVec 32 := 4#32
  let v145 : BitVec 32 := Scalar.addi v144 c4_i32
  let v285 : Index := Scalar.indexCast v145
  let c32_106 : Index := 32#32
  ![v285.toNat, 32]
def k0_off53 (v147 : BitVec 32) : Fin 2 → Nat :=
  let c0_i32_97 : BitVec 32 := 0#32
  let v250 : BitVec 1 := Scalar.cmpi .sgt v147 c0_i32_97
  let v251 : BitVec 32 := Scalar.extui v250
  let c0_i32_98 : BitVec 32 := 0#32
  let v252 : BitVec 1 := Scalar.cmpi .slt v147 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v147 c8_i32_96
  let c0_i32_101 : BitVec 32 := 0#32
  let v262 : BitVec 1 := Scalar.cmpi .ne v261 c0_i32_101
  let v263 : BitVec 1 := Scalar.andi v260 v262
  let v249 : BitVec 32 := Scalar.divsi v147 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v147 v266
  let v289 : Index := Scalar.indexCast v267
  let c48 : Index := 48#32
  ![v289.toNat, 48]

def k0_chk5 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) : Prop :=
  (∀ (k0_h2 : k0_cond2 v25 v27 v30 v33 v36 v39 v42 v45 v48 v51 v54 v57 v60 v63 v66 v69 = 1#1), ∀ (k0_h7 : k0_cond7 v142 = 1#1), ∀ a, (k0_off46 v147) a + S8x64.size a ≤ S8192x64.size a) ∧
  (∀ (k0_h2 : k0_cond2 v25 v27 v30 v33 v36 v39 v42 v45 v48 v51 v54 v57 v60 v63 v66 v69 = 1#1), ∀ (k0_h7 : k0_cond7 v142 = 1#1), ∀ a, (k0_off47 v147) a + S1x16.size a ≤ S8x64.size a) ∧
  (∀ (k0_h2 : k0_cond2 v25 v27 v30 v33 v36 v39 v42 v45 v48 v51 v54 v57 v60 v63 v66 v69 = 1#1), ∀ (k0_h7 : k0_cond7 v142 = 1#1), ∀ a, (k0_off49 v147) a + S1x16.size a ≤ S8x64.size a) ∧
  (∀ (k0_h2 : k0_cond2 v25 v27 v30 v33 v36 v39 v42 v45 v48 v51 v54 v57 v60 v63 v66 v69 = 1#1), ∀ (k0_h7 : k0_cond7 v142 = 1#1), ∀ a, (k0_off51 v147) a + S1x16.size a ≤ S8x64.size a) ∧
  (∀ (k0_h2 : k0_cond2 v25 v27 v30 v33 v36 v39 v42 v45 v48 v51 v54 v57 v60 v63 v66 v69 = 1#1), ∀ (k0_h7 : k0_cond7 v142 = 1#1), ∀ a, (k0_off53 v147) a + S1x16.size a ≤ S8x64.size a)
theorem k0_off46_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) (k0_hw5 : k0_chk5 v25 v27 v30 v33 v36 v39 v42 v45 v48 v51 v54 v57 v60 v63 v66 v69 v142 v147), ∀ (k0_h2 : k0_cond2 v25 v27 v30 v33 v36 v39 v42 v45 v48 v51 v54 v57 v60 v63 v66 v69 = 1#1), ∀ (k0_h7 : k0_cond7 v142 = 1#1), ∀ a, (k0_off46 v147) a + S8x64.size a ≤ S8192x64.size a := fun v25 v27 v30 v33 v36 v39 v42 v45 v48 v51 v54 v57 v60 v63 v66 v69 v142 v147 k0_hw5 k0_h2 k0_h7 => k0_hw5.1 k0_h2 k0_h7
theorem k0_off47_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) (k0_hw5 : k0_chk5 v25 v27 v30 v33 v36 v39 v42 v45 v48 v51 v54 v57 v60 v63 v66 v69 v142 v147), ∀ (k0_h2 : k0_cond2 v25 v27 v30 v33 v36 v39 v42 v45 v48 v51 v54 v57 v60 v63 v66 v69 = 1#1), ∀ (k0_h7 : k0_cond7 v142 = 1#1), ∀ a, (k0_off47 v147) a + S1x16.size a ≤ S8x64.size a := fun v25 v27 v30 v33 v36 v39 v42 v45 v48 v51 v54 v57 v60 v63 v66 v69 v142 v147 k0_hw5 k0_h2 k0_h7 => k0_hw5.2.1 k0_h2 k0_h7
theorem k0_off49_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) (k0_hw5 : k0_chk5 v25 v27 v30 v33 v36 v39 v42 v45 v48 v51 v54 v57 v60 v63 v66 v69 v142 v147), ∀ (k0_h2 : k0_cond2 v25 v27 v30 v33 v36 v39 v42 v45 v48 v51 v54 v57 v60 v63 v66 v69 = 1#1), ∀ (k0_h7 : k0_cond7 v142 = 1#1), ∀ a, (k0_off49 v147) a + S1x16.size a ≤ S8x64.size a := fun v25 v27 v30 v33 v36 v39 v42 v45 v48 v51 v54 v57 v60 v63 v66 v69 v142 v147 k0_hw5 k0_h2 k0_h7 => k0_hw5.2.2.1 k0_h2 k0_h7
theorem k0_off51_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) (k0_hw5 : k0_chk5 v25 v27 v30 v33 v36 v39 v42 v45 v48 v51 v54 v57 v60 v63 v66 v69 v142 v147), ∀ (k0_h2 : k0_cond2 v25 v27 v30 v33 v36 v39 v42 v45 v48 v51 v54 v57 v60 v63 v66 v69 = 1#1), ∀ (k0_h7 : k0_cond7 v142 = 1#1), ∀ a, (k0_off51 v147) a + S1x16.size a ≤ S8x64.size a := fun v25 v27 v30 v33 v36 v39 v42 v45 v48 v51 v54 v57 v60 v63 v66 v69 v142 v147 k0_hw5 k0_h2 k0_h7 => k0_hw5.2.2.2.1 k0_h2 k0_h7
theorem k0_off53_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v142 : BitVec 32) (v147 : BitVec 32) (k0_hw5 : k0_chk5 v25 v27 v30 v33 v36 v39 v42 v45 v48 v51 v54 v57 v60 v63 v66 v69 v142 v147), ∀ (k0_h2 : k0_cond2 v25 v27 v30 v33 v36 v39 v42 v45 v48 v51 v54 v57 v60 v63 v66 v69 = 1#1), ∀ (k0_h7 : k0_cond7 v142 = 1#1), ∀ a, (k0_off53 v147) a + S1x16.size a ≤ S8x64.size a := fun v25 v27 v30 v33 v36 v39 v42 v45 v48 v51 v54 v57 v60 v63 v66 v69 v142 v147 k0_hw5 k0_h2 k0_h7 => k0_hw5.2.2.2.2 k0_h2 k0_h7

def k0_off54 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_59 : BitVec 32 := 16#32
  let v144 : BitVec 32 := Scalar.muli arg31 c16_i32_59
  let c4_i32 : BitVec 32 := 4#32
  let v145 : BitVec 32 := Scalar.addi v144 c4_i32
  let v292 : Index := Scalar.indexCast v145
  let c48_107 : Index := 48#32
  ![v292.toNat, 48]
def k0_off55 (v156 : BitVec 32) : Fin 2 → Nat :=
  let c0_i32_97 : BitVec 32 := 0#32
  let v250 : BitVec 1 := Scalar.cmpi .sgt v156 c0_i32_97
  let v251 : BitVec 32 := Scalar.extui v250
  let c0_i32_98 : BitVec 32 := 0#32
  let v252 : BitVec 1 := Scalar.cmpi .slt v156 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v156 c8_i32_96
  let c0_i32_101 : BitVec 32 := 0#32
  let v262 : BitVec 1 := Scalar.cmpi .ne v261 c0_i32_101
  let v263 : BitVec 1 := Scalar.andi v260 v262
  let v249 : BitVec 32 := Scalar.divsi v156 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r8 : BitVec 32 := 0#32
  ![v266.toNat, 0]
def k0_cond8 (v151 : BitVec 32) : BitVec 1 :=
  let c0_i32_61 : BitVec 32 := 0#32
  let v152 : BitVec 1 := Scalar.cmpi .eq v151 c0_i32_61
  let v157 : BitVec 32 := Scalar.extui v152
  let c0_i32_63 : BitVec 32 := 0#32
  let v158 : BitVec 1 := Scalar.cmpi .ne v157 c0_i32_63
  v158

def k0_off56 (v156 : BitVec 32) : Fin 2 → Nat :=
  let c0_i32_97 : BitVec 32 := 0#32
  let v250 : BitVec 1 := Scalar.cmpi .sgt v156 c0_i32_97
  let v251 : BitVec 32 := Scalar.extui v250
  let c0_i32_98 : BitVec 32 := 0#32
  let v252 : BitVec 1 := Scalar.cmpi .slt v156 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v156 c8_i32_96
  let c0_i32_101 : BitVec 32 := 0#32
  let v262 : BitVec 1 := Scalar.cmpi .ne v261 c0_i32_101
  let v263 : BitVec 1 := Scalar.andi v260 v262
  let v249 : BitVec 32 := Scalar.divsi v156 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v156 v266
  let v268 : Index := Scalar.indexCast v267
  let c0 : Index := 0#32
  ![v268.toNat, 0]
def k0_off57 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_62 : BitVec 32 := 16#32
  let v153 : BitVec 32 := Scalar.muli arg31 c16_i32_62
  let c5_i32 : BitVec 32 := 5#32
  let v154 : BitVec 32 := Scalar.addi v153 c5_i32
  let v271 : Index := Scalar.indexCast v154
  let c0_104 : Index := 0#32
  ![v271.toNat, 0]
def k0_off58 (v156 : BitVec 32) : Fin 2 → Nat :=
  let c0_i32_97 : BitVec 32 := 0#32
  let v250 : BitVec 1 := Scalar.cmpi .sgt v156 c0_i32_97
  let v251 : BitVec 32 := Scalar.extui v250
  let c0_i32_98 : BitVec 32 := 0#32
  let v252 : BitVec 1 := Scalar.cmpi .slt v156 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v156 c8_i32_96
  let c0_i32_101 : BitVec 32 := 0#32
  let v262 : BitVec 1 := Scalar.cmpi .ne v261 c0_i32_101
  let v263 : BitVec 1 := Scalar.andi v260 v262
  let v249 : BitVec 32 := Scalar.divsi v156 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v156 v266
  let v275 : Index := Scalar.indexCast v267
  let c16 : Index := 16#32
  ![v275.toNat, 16]
def k0_off59 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_62 : BitVec 32 := 16#32
  let v153 : BitVec 32 := Scalar.muli arg31 c16_i32_62
  let c5_i32 : BitVec 32 := 5#32
  let v154 : BitVec 32 := Scalar.addi v153 c5_i32
  let v278 : Index := Scalar.indexCast v154
  let c16_105 : Index := 16#32
  ![v278.toNat, 16]
def k0_off60 (v156 : BitVec 32) : Fin 2 → Nat :=
  let c0_i32_97 : BitVec 32 := 0#32
  let v250 : BitVec 1 := Scalar.cmpi .sgt v156 c0_i32_97
  let v251 : BitVec 32 := Scalar.extui v250
  let c0_i32_98 : BitVec 32 := 0#32
  let v252 : BitVec 1 := Scalar.cmpi .slt v156 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v156 c8_i32_96
  let c0_i32_101 : BitVec 32 := 0#32
  let v262 : BitVec 1 := Scalar.cmpi .ne v261 c0_i32_101
  let v263 : BitVec 1 := Scalar.andi v260 v262
  let v249 : BitVec 32 := Scalar.divsi v156 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v156 v266
  let v282 : Index := Scalar.indexCast v267
  let c32 : Index := 32#32
  ![v282.toNat, 32]
def k0_off61 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_62 : BitVec 32 := 16#32
  let v153 : BitVec 32 := Scalar.muli arg31 c16_i32_62
  let c5_i32 : BitVec 32 := 5#32
  let v154 : BitVec 32 := Scalar.addi v153 c5_i32
  let v285 : Index := Scalar.indexCast v154
  let c32_106 : Index := 32#32
  ![v285.toNat, 32]
def k0_off62 (v156 : BitVec 32) : Fin 2 → Nat :=
  let c0_i32_97 : BitVec 32 := 0#32
  let v250 : BitVec 1 := Scalar.cmpi .sgt v156 c0_i32_97
  let v251 : BitVec 32 := Scalar.extui v250
  let c0_i32_98 : BitVec 32 := 0#32
  let v252 : BitVec 1 := Scalar.cmpi .slt v156 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v156 c8_i32_96
  let c0_i32_101 : BitVec 32 := 0#32
  let v262 : BitVec 1 := Scalar.cmpi .ne v261 c0_i32_101
  let v263 : BitVec 1 := Scalar.andi v260 v262
  let v249 : BitVec 32 := Scalar.divsi v156 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v156 v266
  let v289 : Index := Scalar.indexCast v267
  let c48 : Index := 48#32
  ![v289.toNat, 48]

def k0_chk6 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) : Prop :=
  (∀ (k0_h2 : k0_cond2 v25 v27 v30 v33 v36 v39 v42 v45 v48 v51 v54 v57 v60 v63 v66 v69 = 1#1), ∀ (k0_h8 : k0_cond8 v151 = 1#1), ∀ a, (k0_off55 v156) a + S8x64.size a ≤ S8192x64.size a) ∧
  (∀ (k0_h2 : k0_cond2 v25 v27 v30 v33 v36 v39 v42 v45 v48 v51 v54 v57 v60 v63 v66 v69 = 1#1), ∀ (k0_h8 : k0_cond8 v151 = 1#1), ∀ a, (k0_off56 v156) a + S1x16.size a ≤ S8x64.size a) ∧
  (∀ (k0_h2 : k0_cond2 v25 v27 v30 v33 v36 v39 v42 v45 v48 v51 v54 v57 v60 v63 v66 v69 = 1#1), ∀ (k0_h8 : k0_cond8 v151 = 1#1), ∀ a, (k0_off58 v156) a + S1x16.size a ≤ S8x64.size a) ∧
  (∀ (k0_h2 : k0_cond2 v25 v27 v30 v33 v36 v39 v42 v45 v48 v51 v54 v57 v60 v63 v66 v69 = 1#1), ∀ (k0_h8 : k0_cond8 v151 = 1#1), ∀ a, (k0_off60 v156) a + S1x16.size a ≤ S8x64.size a) ∧
  (∀ (k0_h2 : k0_cond2 v25 v27 v30 v33 v36 v39 v42 v45 v48 v51 v54 v57 v60 v63 v66 v69 = 1#1), ∀ (k0_h8 : k0_cond8 v151 = 1#1), ∀ a, (k0_off62 v156) a + S1x16.size a ≤ S8x64.size a)
theorem k0_off55_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) (k0_hw6 : k0_chk6 v25 v27 v30 v33 v36 v39 v42 v45 v48 v51 v54 v57 v60 v63 v66 v69 v151 v156), ∀ (k0_h2 : k0_cond2 v25 v27 v30 v33 v36 v39 v42 v45 v48 v51 v54 v57 v60 v63 v66 v69 = 1#1), ∀ (k0_h8 : k0_cond8 v151 = 1#1), ∀ a, (k0_off55 v156) a + S8x64.size a ≤ S8192x64.size a := fun v25 v27 v30 v33 v36 v39 v42 v45 v48 v51 v54 v57 v60 v63 v66 v69 v151 v156 k0_hw6 k0_h2 k0_h8 => k0_hw6.1 k0_h2 k0_h8
theorem k0_off56_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) (k0_hw6 : k0_chk6 v25 v27 v30 v33 v36 v39 v42 v45 v48 v51 v54 v57 v60 v63 v66 v69 v151 v156), ∀ (k0_h2 : k0_cond2 v25 v27 v30 v33 v36 v39 v42 v45 v48 v51 v54 v57 v60 v63 v66 v69 = 1#1), ∀ (k0_h8 : k0_cond8 v151 = 1#1), ∀ a, (k0_off56 v156) a + S1x16.size a ≤ S8x64.size a := fun v25 v27 v30 v33 v36 v39 v42 v45 v48 v51 v54 v57 v60 v63 v66 v69 v151 v156 k0_hw6 k0_h2 k0_h8 => k0_hw6.2.1 k0_h2 k0_h8
theorem k0_off58_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) (k0_hw6 : k0_chk6 v25 v27 v30 v33 v36 v39 v42 v45 v48 v51 v54 v57 v60 v63 v66 v69 v151 v156), ∀ (k0_h2 : k0_cond2 v25 v27 v30 v33 v36 v39 v42 v45 v48 v51 v54 v57 v60 v63 v66 v69 = 1#1), ∀ (k0_h8 : k0_cond8 v151 = 1#1), ∀ a, (k0_off58 v156) a + S1x16.size a ≤ S8x64.size a := fun v25 v27 v30 v33 v36 v39 v42 v45 v48 v51 v54 v57 v60 v63 v66 v69 v151 v156 k0_hw6 k0_h2 k0_h8 => k0_hw6.2.2.1 k0_h2 k0_h8
theorem k0_off60_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) (k0_hw6 : k0_chk6 v25 v27 v30 v33 v36 v39 v42 v45 v48 v51 v54 v57 v60 v63 v66 v69 v151 v156), ∀ (k0_h2 : k0_cond2 v25 v27 v30 v33 v36 v39 v42 v45 v48 v51 v54 v57 v60 v63 v66 v69 = 1#1), ∀ (k0_h8 : k0_cond8 v151 = 1#1), ∀ a, (k0_off60 v156) a + S1x16.size a ≤ S8x64.size a := fun v25 v27 v30 v33 v36 v39 v42 v45 v48 v51 v54 v57 v60 v63 v66 v69 v151 v156 k0_hw6 k0_h2 k0_h8 => k0_hw6.2.2.2.1 k0_h2 k0_h8
theorem k0_off62_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v151 : BitVec 32) (v156 : BitVec 32) (k0_hw6 : k0_chk6 v25 v27 v30 v33 v36 v39 v42 v45 v48 v51 v54 v57 v60 v63 v66 v69 v151 v156), ∀ (k0_h2 : k0_cond2 v25 v27 v30 v33 v36 v39 v42 v45 v48 v51 v54 v57 v60 v63 v66 v69 = 1#1), ∀ (k0_h8 : k0_cond8 v151 = 1#1), ∀ a, (k0_off62 v156) a + S1x16.size a ≤ S8x64.size a := fun v25 v27 v30 v33 v36 v39 v42 v45 v48 v51 v54 v57 v60 v63 v66 v69 v151 v156 k0_hw6 k0_h2 k0_h8 => k0_hw6.2.2.2.2 k0_h2 k0_h8

def k0_off63 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_62 : BitVec 32 := 16#32
  let v153 : BitVec 32 := Scalar.muli arg31 c16_i32_62
  let c5_i32 : BitVec 32 := 5#32
  let v154 : BitVec 32 := Scalar.addi v153 c5_i32
  let v292 : Index := Scalar.indexCast v154
  let c48_107 : Index := 48#32
  ![v292.toNat, 48]
def k0_off64 (v165 : BitVec 32) : Fin 2 → Nat :=
  let c0_i32_97 : BitVec 32 := 0#32
  let v250 : BitVec 1 := Scalar.cmpi .sgt v165 c0_i32_97
  let v251 : BitVec 32 := Scalar.extui v250
  let c0_i32_98 : BitVec 32 := 0#32
  let v252 : BitVec 1 := Scalar.cmpi .slt v165 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v165 c8_i32_96
  let c0_i32_101 : BitVec 32 := 0#32
  let v262 : BitVec 1 := Scalar.cmpi .ne v261 c0_i32_101
  let v263 : BitVec 1 := Scalar.andi v260 v262
  let v249 : BitVec 32 := Scalar.divsi v165 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r9 : BitVec 32 := 0#32
  ![v266.toNat, 0]
def k0_cond9 (v160 : BitVec 32) : BitVec 1 :=
  let c0_i32_64 : BitVec 32 := 0#32
  let v161 : BitVec 1 := Scalar.cmpi .eq v160 c0_i32_64
  let v166 : BitVec 32 := Scalar.extui v161
  let c0_i32_66 : BitVec 32 := 0#32
  let v167 : BitVec 1 := Scalar.cmpi .ne v166 c0_i32_66
  v167

def k0_off65 (v165 : BitVec 32) : Fin 2 → Nat :=
  let c0_i32_97 : BitVec 32 := 0#32
  let v250 : BitVec 1 := Scalar.cmpi .sgt v165 c0_i32_97
  let v251 : BitVec 32 := Scalar.extui v250
  let c0_i32_98 : BitVec 32 := 0#32
  let v252 : BitVec 1 := Scalar.cmpi .slt v165 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v165 c8_i32_96
  let c0_i32_101 : BitVec 32 := 0#32
  let v262 : BitVec 1 := Scalar.cmpi .ne v261 c0_i32_101
  let v263 : BitVec 1 := Scalar.andi v260 v262
  let v249 : BitVec 32 := Scalar.divsi v165 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v165 v266
  let v268 : Index := Scalar.indexCast v267
  let c0 : Index := 0#32
  ![v268.toNat, 0]
def k0_off66 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_65 : BitVec 32 := 16#32
  let v162 : BitVec 32 := Scalar.muli arg31 c16_i32_65
  let c6_i32 : BitVec 32 := 6#32
  let v163 : BitVec 32 := Scalar.addi v162 c6_i32
  let v271 : Index := Scalar.indexCast v163
  let c0_104 : Index := 0#32
  ![v271.toNat, 0]
def k0_off67 (v165 : BitVec 32) : Fin 2 → Nat :=
  let c0_i32_97 : BitVec 32 := 0#32
  let v250 : BitVec 1 := Scalar.cmpi .sgt v165 c0_i32_97
  let v251 : BitVec 32 := Scalar.extui v250
  let c0_i32_98 : BitVec 32 := 0#32
  let v252 : BitVec 1 := Scalar.cmpi .slt v165 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v165 c8_i32_96
  let c0_i32_101 : BitVec 32 := 0#32
  let v262 : BitVec 1 := Scalar.cmpi .ne v261 c0_i32_101
  let v263 : BitVec 1 := Scalar.andi v260 v262
  let v249 : BitVec 32 := Scalar.divsi v165 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v165 v266
  let v275 : Index := Scalar.indexCast v267
  let c16 : Index := 16#32
  ![v275.toNat, 16]
def k0_off68 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_65 : BitVec 32 := 16#32
  let v162 : BitVec 32 := Scalar.muli arg31 c16_i32_65
  let c6_i32 : BitVec 32 := 6#32
  let v163 : BitVec 32 := Scalar.addi v162 c6_i32
  let v278 : Index := Scalar.indexCast v163
  let c16_105 : Index := 16#32
  ![v278.toNat, 16]
def k0_off69 (v165 : BitVec 32) : Fin 2 → Nat :=
  let c0_i32_97 : BitVec 32 := 0#32
  let v250 : BitVec 1 := Scalar.cmpi .sgt v165 c0_i32_97
  let v251 : BitVec 32 := Scalar.extui v250
  let c0_i32_98 : BitVec 32 := 0#32
  let v252 : BitVec 1 := Scalar.cmpi .slt v165 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v165 c8_i32_96
  let c0_i32_101 : BitVec 32 := 0#32
  let v262 : BitVec 1 := Scalar.cmpi .ne v261 c0_i32_101
  let v263 : BitVec 1 := Scalar.andi v260 v262
  let v249 : BitVec 32 := Scalar.divsi v165 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v165 v266
  let v282 : Index := Scalar.indexCast v267
  let c32 : Index := 32#32
  ![v282.toNat, 32]
def k0_off70 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_65 : BitVec 32 := 16#32
  let v162 : BitVec 32 := Scalar.muli arg31 c16_i32_65
  let c6_i32 : BitVec 32 := 6#32
  let v163 : BitVec 32 := Scalar.addi v162 c6_i32
  let v285 : Index := Scalar.indexCast v163
  let c32_106 : Index := 32#32
  ![v285.toNat, 32]
def k0_off71 (v165 : BitVec 32) : Fin 2 → Nat :=
  let c0_i32_97 : BitVec 32 := 0#32
  let v250 : BitVec 1 := Scalar.cmpi .sgt v165 c0_i32_97
  let v251 : BitVec 32 := Scalar.extui v250
  let c0_i32_98 : BitVec 32 := 0#32
  let v252 : BitVec 1 := Scalar.cmpi .slt v165 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v165 c8_i32_96
  let c0_i32_101 : BitVec 32 := 0#32
  let v262 : BitVec 1 := Scalar.cmpi .ne v261 c0_i32_101
  let v263 : BitVec 1 := Scalar.andi v260 v262
  let v249 : BitVec 32 := Scalar.divsi v165 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v165 v266
  let v289 : Index := Scalar.indexCast v267
  let c48 : Index := 48#32
  ![v289.toNat, 48]

def k0_chk7 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) : Prop :=
  (∀ (k0_h2 : k0_cond2 v25 v27 v30 v33 v36 v39 v42 v45 v48 v51 v54 v57 v60 v63 v66 v69 = 1#1), ∀ (k0_h9 : k0_cond9 v160 = 1#1), ∀ a, (k0_off64 v165) a + S8x64.size a ≤ S8192x64.size a) ∧
  (∀ (k0_h2 : k0_cond2 v25 v27 v30 v33 v36 v39 v42 v45 v48 v51 v54 v57 v60 v63 v66 v69 = 1#1), ∀ (k0_h9 : k0_cond9 v160 = 1#1), ∀ a, (k0_off65 v165) a + S1x16.size a ≤ S8x64.size a) ∧
  (∀ (k0_h2 : k0_cond2 v25 v27 v30 v33 v36 v39 v42 v45 v48 v51 v54 v57 v60 v63 v66 v69 = 1#1), ∀ (k0_h9 : k0_cond9 v160 = 1#1), ∀ a, (k0_off67 v165) a + S1x16.size a ≤ S8x64.size a) ∧
  (∀ (k0_h2 : k0_cond2 v25 v27 v30 v33 v36 v39 v42 v45 v48 v51 v54 v57 v60 v63 v66 v69 = 1#1), ∀ (k0_h9 : k0_cond9 v160 = 1#1), ∀ a, (k0_off69 v165) a + S1x16.size a ≤ S8x64.size a) ∧
  (∀ (k0_h2 : k0_cond2 v25 v27 v30 v33 v36 v39 v42 v45 v48 v51 v54 v57 v60 v63 v66 v69 = 1#1), ∀ (k0_h9 : k0_cond9 v160 = 1#1), ∀ a, (k0_off71 v165) a + S1x16.size a ≤ S8x64.size a)
theorem k0_off64_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) (k0_hw7 : k0_chk7 v25 v27 v30 v33 v36 v39 v42 v45 v48 v51 v54 v57 v60 v63 v66 v69 v160 v165), ∀ (k0_h2 : k0_cond2 v25 v27 v30 v33 v36 v39 v42 v45 v48 v51 v54 v57 v60 v63 v66 v69 = 1#1), ∀ (k0_h9 : k0_cond9 v160 = 1#1), ∀ a, (k0_off64 v165) a + S8x64.size a ≤ S8192x64.size a := fun v25 v27 v30 v33 v36 v39 v42 v45 v48 v51 v54 v57 v60 v63 v66 v69 v160 v165 k0_hw7 k0_h2 k0_h9 => k0_hw7.1 k0_h2 k0_h9
theorem k0_off65_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) (k0_hw7 : k0_chk7 v25 v27 v30 v33 v36 v39 v42 v45 v48 v51 v54 v57 v60 v63 v66 v69 v160 v165), ∀ (k0_h2 : k0_cond2 v25 v27 v30 v33 v36 v39 v42 v45 v48 v51 v54 v57 v60 v63 v66 v69 = 1#1), ∀ (k0_h9 : k0_cond9 v160 = 1#1), ∀ a, (k0_off65 v165) a + S1x16.size a ≤ S8x64.size a := fun v25 v27 v30 v33 v36 v39 v42 v45 v48 v51 v54 v57 v60 v63 v66 v69 v160 v165 k0_hw7 k0_h2 k0_h9 => k0_hw7.2.1 k0_h2 k0_h9
theorem k0_off67_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) (k0_hw7 : k0_chk7 v25 v27 v30 v33 v36 v39 v42 v45 v48 v51 v54 v57 v60 v63 v66 v69 v160 v165), ∀ (k0_h2 : k0_cond2 v25 v27 v30 v33 v36 v39 v42 v45 v48 v51 v54 v57 v60 v63 v66 v69 = 1#1), ∀ (k0_h9 : k0_cond9 v160 = 1#1), ∀ a, (k0_off67 v165) a + S1x16.size a ≤ S8x64.size a := fun v25 v27 v30 v33 v36 v39 v42 v45 v48 v51 v54 v57 v60 v63 v66 v69 v160 v165 k0_hw7 k0_h2 k0_h9 => k0_hw7.2.2.1 k0_h2 k0_h9
theorem k0_off69_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) (k0_hw7 : k0_chk7 v25 v27 v30 v33 v36 v39 v42 v45 v48 v51 v54 v57 v60 v63 v66 v69 v160 v165), ∀ (k0_h2 : k0_cond2 v25 v27 v30 v33 v36 v39 v42 v45 v48 v51 v54 v57 v60 v63 v66 v69 = 1#1), ∀ (k0_h9 : k0_cond9 v160 = 1#1), ∀ a, (k0_off69 v165) a + S1x16.size a ≤ S8x64.size a := fun v25 v27 v30 v33 v36 v39 v42 v45 v48 v51 v54 v57 v60 v63 v66 v69 v160 v165 k0_hw7 k0_h2 k0_h9 => k0_hw7.2.2.2.1 k0_h2 k0_h9
theorem k0_off71_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v160 : BitVec 32) (v165 : BitVec 32) (k0_hw7 : k0_chk7 v25 v27 v30 v33 v36 v39 v42 v45 v48 v51 v54 v57 v60 v63 v66 v69 v160 v165), ∀ (k0_h2 : k0_cond2 v25 v27 v30 v33 v36 v39 v42 v45 v48 v51 v54 v57 v60 v63 v66 v69 = 1#1), ∀ (k0_h9 : k0_cond9 v160 = 1#1), ∀ a, (k0_off71 v165) a + S1x16.size a ≤ S8x64.size a := fun v25 v27 v30 v33 v36 v39 v42 v45 v48 v51 v54 v57 v60 v63 v66 v69 v160 v165 k0_hw7 k0_h2 k0_h9 => k0_hw7.2.2.2.2 k0_h2 k0_h9

def k0_off72 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_65 : BitVec 32 := 16#32
  let v162 : BitVec 32 := Scalar.muli arg31 c16_i32_65
  let c6_i32 : BitVec 32 := 6#32
  let v163 : BitVec 32 := Scalar.addi v162 c6_i32
  let v292 : Index := Scalar.indexCast v163
  let c48_107 : Index := 48#32
  ![v292.toNat, 48]
def k0_off73 (v174 : BitVec 32) : Fin 2 → Nat :=
  let c0_i32_97 : BitVec 32 := 0#32
  let v250 : BitVec 1 := Scalar.cmpi .sgt v174 c0_i32_97
  let v251 : BitVec 32 := Scalar.extui v250
  let c0_i32_98 : BitVec 32 := 0#32
  let v252 : BitVec 1 := Scalar.cmpi .slt v174 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v174 c8_i32_96
  let c0_i32_101 : BitVec 32 := 0#32
  let v262 : BitVec 1 := Scalar.cmpi .ne v261 c0_i32_101
  let v263 : BitVec 1 := Scalar.andi v260 v262
  let v249 : BitVec 32 := Scalar.divsi v174 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r10 : BitVec 32 := 0#32
  ![v266.toNat, 0]
def k0_cond10 (v169 : BitVec 32) : BitVec 1 :=
  let c0_i32_67 : BitVec 32 := 0#32
  let v170 : BitVec 1 := Scalar.cmpi .eq v169 c0_i32_67
  let v175 : BitVec 32 := Scalar.extui v170
  let c0_i32_69 : BitVec 32 := 0#32
  let v176 : BitVec 1 := Scalar.cmpi .ne v175 c0_i32_69
  v176

def k0_off74 (v174 : BitVec 32) : Fin 2 → Nat :=
  let c0_i32_97 : BitVec 32 := 0#32
  let v250 : BitVec 1 := Scalar.cmpi .sgt v174 c0_i32_97
  let v251 : BitVec 32 := Scalar.extui v250
  let c0_i32_98 : BitVec 32 := 0#32
  let v252 : BitVec 1 := Scalar.cmpi .slt v174 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v174 c8_i32_96
  let c0_i32_101 : BitVec 32 := 0#32
  let v262 : BitVec 1 := Scalar.cmpi .ne v261 c0_i32_101
  let v263 : BitVec 1 := Scalar.andi v260 v262
  let v249 : BitVec 32 := Scalar.divsi v174 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v174 v266
  let v268 : Index := Scalar.indexCast v267
  let c0 : Index := 0#32
  ![v268.toNat, 0]
def k0_off75 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_68 : BitVec 32 := 16#32
  let v171 : BitVec 32 := Scalar.muli arg31 c16_i32_68
  let c7_i32 : BitVec 32 := 7#32
  let v172 : BitVec 32 := Scalar.addi v171 c7_i32
  let v271 : Index := Scalar.indexCast v172
  let c0_104 : Index := 0#32
  ![v271.toNat, 0]
def k0_off76 (v174 : BitVec 32) : Fin 2 → Nat :=
  let c0_i32_97 : BitVec 32 := 0#32
  let v250 : BitVec 1 := Scalar.cmpi .sgt v174 c0_i32_97
  let v251 : BitVec 32 := Scalar.extui v250
  let c0_i32_98 : BitVec 32 := 0#32
  let v252 : BitVec 1 := Scalar.cmpi .slt v174 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v174 c8_i32_96
  let c0_i32_101 : BitVec 32 := 0#32
  let v262 : BitVec 1 := Scalar.cmpi .ne v261 c0_i32_101
  let v263 : BitVec 1 := Scalar.andi v260 v262
  let v249 : BitVec 32 := Scalar.divsi v174 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v174 v266
  let v275 : Index := Scalar.indexCast v267
  let c16 : Index := 16#32
  ![v275.toNat, 16]
def k0_off77 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_68 : BitVec 32 := 16#32
  let v171 : BitVec 32 := Scalar.muli arg31 c16_i32_68
  let c7_i32 : BitVec 32 := 7#32
  let v172 : BitVec 32 := Scalar.addi v171 c7_i32
  let v278 : Index := Scalar.indexCast v172
  let c16_105 : Index := 16#32
  ![v278.toNat, 16]
def k0_off78 (v174 : BitVec 32) : Fin 2 → Nat :=
  let c0_i32_97 : BitVec 32 := 0#32
  let v250 : BitVec 1 := Scalar.cmpi .sgt v174 c0_i32_97
  let v251 : BitVec 32 := Scalar.extui v250
  let c0_i32_98 : BitVec 32 := 0#32
  let v252 : BitVec 1 := Scalar.cmpi .slt v174 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v174 c8_i32_96
  let c0_i32_101 : BitVec 32 := 0#32
  let v262 : BitVec 1 := Scalar.cmpi .ne v261 c0_i32_101
  let v263 : BitVec 1 := Scalar.andi v260 v262
  let v249 : BitVec 32 := Scalar.divsi v174 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v174 v266
  let v282 : Index := Scalar.indexCast v267
  let c32 : Index := 32#32
  ![v282.toNat, 32]
def k0_off79 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_68 : BitVec 32 := 16#32
  let v171 : BitVec 32 := Scalar.muli arg31 c16_i32_68
  let c7_i32 : BitVec 32 := 7#32
  let v172 : BitVec 32 := Scalar.addi v171 c7_i32
  let v285 : Index := Scalar.indexCast v172
  let c32_106 : Index := 32#32
  ![v285.toNat, 32]
def k0_off80 (v174 : BitVec 32) : Fin 2 → Nat :=
  let c0_i32_97 : BitVec 32 := 0#32
  let v250 : BitVec 1 := Scalar.cmpi .sgt v174 c0_i32_97
  let v251 : BitVec 32 := Scalar.extui v250
  let c0_i32_98 : BitVec 32 := 0#32
  let v252 : BitVec 1 := Scalar.cmpi .slt v174 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v174 c8_i32_96
  let c0_i32_101 : BitVec 32 := 0#32
  let v262 : BitVec 1 := Scalar.cmpi .ne v261 c0_i32_101
  let v263 : BitVec 1 := Scalar.andi v260 v262
  let v249 : BitVec 32 := Scalar.divsi v174 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v174 v266
  let v289 : Index := Scalar.indexCast v267
  let c48 : Index := 48#32
  ![v289.toNat, 48]

def k0_chk8 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) : Prop :=
  (∀ (k0_h2 : k0_cond2 v25 v27 v30 v33 v36 v39 v42 v45 v48 v51 v54 v57 v60 v63 v66 v69 = 1#1), ∀ (k0_h10 : k0_cond10 v169 = 1#1), ∀ a, (k0_off73 v174) a + S8x64.size a ≤ S8192x64.size a) ∧
  (∀ (k0_h2 : k0_cond2 v25 v27 v30 v33 v36 v39 v42 v45 v48 v51 v54 v57 v60 v63 v66 v69 = 1#1), ∀ (k0_h10 : k0_cond10 v169 = 1#1), ∀ a, (k0_off74 v174) a + S1x16.size a ≤ S8x64.size a) ∧
  (∀ (k0_h2 : k0_cond2 v25 v27 v30 v33 v36 v39 v42 v45 v48 v51 v54 v57 v60 v63 v66 v69 = 1#1), ∀ (k0_h10 : k0_cond10 v169 = 1#1), ∀ a, (k0_off76 v174) a + S1x16.size a ≤ S8x64.size a) ∧
  (∀ (k0_h2 : k0_cond2 v25 v27 v30 v33 v36 v39 v42 v45 v48 v51 v54 v57 v60 v63 v66 v69 = 1#1), ∀ (k0_h10 : k0_cond10 v169 = 1#1), ∀ a, (k0_off78 v174) a + S1x16.size a ≤ S8x64.size a) ∧
  (∀ (k0_h2 : k0_cond2 v25 v27 v30 v33 v36 v39 v42 v45 v48 v51 v54 v57 v60 v63 v66 v69 = 1#1), ∀ (k0_h10 : k0_cond10 v169 = 1#1), ∀ a, (k0_off80 v174) a + S1x16.size a ≤ S8x64.size a)
theorem k0_off73_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) (k0_hw8 : k0_chk8 v25 v27 v30 v33 v36 v39 v42 v45 v48 v51 v54 v57 v60 v63 v66 v69 v169 v174), ∀ (k0_h2 : k0_cond2 v25 v27 v30 v33 v36 v39 v42 v45 v48 v51 v54 v57 v60 v63 v66 v69 = 1#1), ∀ (k0_h10 : k0_cond10 v169 = 1#1), ∀ a, (k0_off73 v174) a + S8x64.size a ≤ S8192x64.size a := fun v25 v27 v30 v33 v36 v39 v42 v45 v48 v51 v54 v57 v60 v63 v66 v69 v169 v174 k0_hw8 k0_h2 k0_h10 => k0_hw8.1 k0_h2 k0_h10
theorem k0_off74_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) (k0_hw8 : k0_chk8 v25 v27 v30 v33 v36 v39 v42 v45 v48 v51 v54 v57 v60 v63 v66 v69 v169 v174), ∀ (k0_h2 : k0_cond2 v25 v27 v30 v33 v36 v39 v42 v45 v48 v51 v54 v57 v60 v63 v66 v69 = 1#1), ∀ (k0_h10 : k0_cond10 v169 = 1#1), ∀ a, (k0_off74 v174) a + S1x16.size a ≤ S8x64.size a := fun v25 v27 v30 v33 v36 v39 v42 v45 v48 v51 v54 v57 v60 v63 v66 v69 v169 v174 k0_hw8 k0_h2 k0_h10 => k0_hw8.2.1 k0_h2 k0_h10
theorem k0_off76_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) (k0_hw8 : k0_chk8 v25 v27 v30 v33 v36 v39 v42 v45 v48 v51 v54 v57 v60 v63 v66 v69 v169 v174), ∀ (k0_h2 : k0_cond2 v25 v27 v30 v33 v36 v39 v42 v45 v48 v51 v54 v57 v60 v63 v66 v69 = 1#1), ∀ (k0_h10 : k0_cond10 v169 = 1#1), ∀ a, (k0_off76 v174) a + S1x16.size a ≤ S8x64.size a := fun v25 v27 v30 v33 v36 v39 v42 v45 v48 v51 v54 v57 v60 v63 v66 v69 v169 v174 k0_hw8 k0_h2 k0_h10 => k0_hw8.2.2.1 k0_h2 k0_h10
theorem k0_off78_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) (k0_hw8 : k0_chk8 v25 v27 v30 v33 v36 v39 v42 v45 v48 v51 v54 v57 v60 v63 v66 v69 v169 v174), ∀ (k0_h2 : k0_cond2 v25 v27 v30 v33 v36 v39 v42 v45 v48 v51 v54 v57 v60 v63 v66 v69 = 1#1), ∀ (k0_h10 : k0_cond10 v169 = 1#1), ∀ a, (k0_off78 v174) a + S1x16.size a ≤ S8x64.size a := fun v25 v27 v30 v33 v36 v39 v42 v45 v48 v51 v54 v57 v60 v63 v66 v69 v169 v174 k0_hw8 k0_h2 k0_h10 => k0_hw8.2.2.2.1 k0_h2 k0_h10
theorem k0_off80_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v169 : BitVec 32) (v174 : BitVec 32) (k0_hw8 : k0_chk8 v25 v27 v30 v33 v36 v39 v42 v45 v48 v51 v54 v57 v60 v63 v66 v69 v169 v174), ∀ (k0_h2 : k0_cond2 v25 v27 v30 v33 v36 v39 v42 v45 v48 v51 v54 v57 v60 v63 v66 v69 = 1#1), ∀ (k0_h10 : k0_cond10 v169 = 1#1), ∀ a, (k0_off80 v174) a + S1x16.size a ≤ S8x64.size a := fun v25 v27 v30 v33 v36 v39 v42 v45 v48 v51 v54 v57 v60 v63 v66 v69 v169 v174 k0_hw8 k0_h2 k0_h10 => k0_hw8.2.2.2.2 k0_h2 k0_h10

def k0_off81 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_68 : BitVec 32 := 16#32
  let v171 : BitVec 32 := Scalar.muli arg31 c16_i32_68
  let c7_i32 : BitVec 32 := 7#32
  let v172 : BitVec 32 := Scalar.addi v171 c7_i32
  let v292 : Index := Scalar.indexCast v172
  let c48_107 : Index := 48#32
  ![v292.toNat, 48]
def k0_off82 (v183 : BitVec 32) : Fin 2 → Nat :=
  let c0_i32_97 : BitVec 32 := 0#32
  let v250 : BitVec 1 := Scalar.cmpi .sgt v183 c0_i32_97
  let v251 : BitVec 32 := Scalar.extui v250
  let c0_i32_98 : BitVec 32 := 0#32
  let v252 : BitVec 1 := Scalar.cmpi .slt v183 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v183 c8_i32_96
  let c0_i32_101 : BitVec 32 := 0#32
  let v262 : BitVec 1 := Scalar.cmpi .ne v261 c0_i32_101
  let v263 : BitVec 1 := Scalar.andi v260 v262
  let v249 : BitVec 32 := Scalar.divsi v183 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r11 : BitVec 32 := 0#32
  ![v266.toNat, 0]
def k0_cond11 (v178 : BitVec 32) : BitVec 1 :=
  let c0_i32_70 : BitVec 32 := 0#32
  let v179 : BitVec 1 := Scalar.cmpi .eq v178 c0_i32_70
  let v184 : BitVec 32 := Scalar.extui v179
  let c0_i32_73 : BitVec 32 := 0#32
  let v185 : BitVec 1 := Scalar.cmpi .ne v184 c0_i32_73
  v185

def k0_off83 (v183 : BitVec 32) : Fin 2 → Nat :=
  let c0_i32_97 : BitVec 32 := 0#32
  let v250 : BitVec 1 := Scalar.cmpi .sgt v183 c0_i32_97
  let v251 : BitVec 32 := Scalar.extui v250
  let c0_i32_98 : BitVec 32 := 0#32
  let v252 : BitVec 1 := Scalar.cmpi .slt v183 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v183 c8_i32_96
  let c0_i32_101 : BitVec 32 := 0#32
  let v262 : BitVec 1 := Scalar.cmpi .ne v261 c0_i32_101
  let v263 : BitVec 1 := Scalar.andi v260 v262
  let v249 : BitVec 32 := Scalar.divsi v183 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v183 v266
  let v268 : Index := Scalar.indexCast v267
  let c0 : Index := 0#32
  ![v268.toNat, 0]
def k0_off84 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_71 : BitVec 32 := 16#32
  let v180 : BitVec 32 := Scalar.muli arg31 c16_i32_71
  let c8_i32_72 : BitVec 32 := 8#32
  let v181 : BitVec 32 := Scalar.addi v180 c8_i32_72
  let v271 : Index := Scalar.indexCast v181
  let c0_104 : Index := 0#32
  ![v271.toNat, 0]
def k0_off85 (v183 : BitVec 32) : Fin 2 → Nat :=
  let c0_i32_97 : BitVec 32 := 0#32
  let v250 : BitVec 1 := Scalar.cmpi .sgt v183 c0_i32_97
  let v251 : BitVec 32 := Scalar.extui v250
  let c0_i32_98 : BitVec 32 := 0#32
  let v252 : BitVec 1 := Scalar.cmpi .slt v183 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v183 c8_i32_96
  let c0_i32_101 : BitVec 32 := 0#32
  let v262 : BitVec 1 := Scalar.cmpi .ne v261 c0_i32_101
  let v263 : BitVec 1 := Scalar.andi v260 v262
  let v249 : BitVec 32 := Scalar.divsi v183 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v183 v266
  let v275 : Index := Scalar.indexCast v267
  let c16 : Index := 16#32
  ![v275.toNat, 16]
def k0_off86 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_71 : BitVec 32 := 16#32
  let v180 : BitVec 32 := Scalar.muli arg31 c16_i32_71
  let c8_i32_72 : BitVec 32 := 8#32
  let v181 : BitVec 32 := Scalar.addi v180 c8_i32_72
  let v278 : Index := Scalar.indexCast v181
  let c16_105 : Index := 16#32
  ![v278.toNat, 16]
def k0_off87 (v183 : BitVec 32) : Fin 2 → Nat :=
  let c0_i32_97 : BitVec 32 := 0#32
  let v250 : BitVec 1 := Scalar.cmpi .sgt v183 c0_i32_97
  let v251 : BitVec 32 := Scalar.extui v250
  let c0_i32_98 : BitVec 32 := 0#32
  let v252 : BitVec 1 := Scalar.cmpi .slt v183 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v183 c8_i32_96
  let c0_i32_101 : BitVec 32 := 0#32
  let v262 : BitVec 1 := Scalar.cmpi .ne v261 c0_i32_101
  let v263 : BitVec 1 := Scalar.andi v260 v262
  let v249 : BitVec 32 := Scalar.divsi v183 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v183 v266
  let v282 : Index := Scalar.indexCast v267
  let c32 : Index := 32#32
  ![v282.toNat, 32]
def k0_off88 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_71 : BitVec 32 := 16#32
  let v180 : BitVec 32 := Scalar.muli arg31 c16_i32_71
  let c8_i32_72 : BitVec 32 := 8#32
  let v181 : BitVec 32 := Scalar.addi v180 c8_i32_72
  let v285 : Index := Scalar.indexCast v181
  let c32_106 : Index := 32#32
  ![v285.toNat, 32]
def k0_off89 (v183 : BitVec 32) : Fin 2 → Nat :=
  let c0_i32_97 : BitVec 32 := 0#32
  let v250 : BitVec 1 := Scalar.cmpi .sgt v183 c0_i32_97
  let v251 : BitVec 32 := Scalar.extui v250
  let c0_i32_98 : BitVec 32 := 0#32
  let v252 : BitVec 1 := Scalar.cmpi .slt v183 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v183 c8_i32_96
  let c0_i32_101 : BitVec 32 := 0#32
  let v262 : BitVec 1 := Scalar.cmpi .ne v261 c0_i32_101
  let v263 : BitVec 1 := Scalar.andi v260 v262
  let v249 : BitVec 32 := Scalar.divsi v183 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v183 v266
  let v289 : Index := Scalar.indexCast v267
  let c48 : Index := 48#32
  ![v289.toNat, 48]

def k0_chk9 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) : Prop :=
  (∀ (k0_h2 : k0_cond2 v25 v27 v30 v33 v36 v39 v42 v45 v48 v51 v54 v57 v60 v63 v66 v69 = 1#1), ∀ (k0_h11 : k0_cond11 v178 = 1#1), ∀ a, (k0_off82 v183) a + S8x64.size a ≤ S8192x64.size a) ∧
  (∀ (k0_h2 : k0_cond2 v25 v27 v30 v33 v36 v39 v42 v45 v48 v51 v54 v57 v60 v63 v66 v69 = 1#1), ∀ (k0_h11 : k0_cond11 v178 = 1#1), ∀ a, (k0_off83 v183) a + S1x16.size a ≤ S8x64.size a) ∧
  (∀ (k0_h2 : k0_cond2 v25 v27 v30 v33 v36 v39 v42 v45 v48 v51 v54 v57 v60 v63 v66 v69 = 1#1), ∀ (k0_h11 : k0_cond11 v178 = 1#1), ∀ a, (k0_off85 v183) a + S1x16.size a ≤ S8x64.size a) ∧
  (∀ (k0_h2 : k0_cond2 v25 v27 v30 v33 v36 v39 v42 v45 v48 v51 v54 v57 v60 v63 v66 v69 = 1#1), ∀ (k0_h11 : k0_cond11 v178 = 1#1), ∀ a, (k0_off87 v183) a + S1x16.size a ≤ S8x64.size a) ∧
  (∀ (k0_h2 : k0_cond2 v25 v27 v30 v33 v36 v39 v42 v45 v48 v51 v54 v57 v60 v63 v66 v69 = 1#1), ∀ (k0_h11 : k0_cond11 v178 = 1#1), ∀ a, (k0_off89 v183) a + S1x16.size a ≤ S8x64.size a)
theorem k0_off82_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) (k0_hw9 : k0_chk9 v25 v27 v30 v33 v36 v39 v42 v45 v48 v51 v54 v57 v60 v63 v66 v69 v178 v183), ∀ (k0_h2 : k0_cond2 v25 v27 v30 v33 v36 v39 v42 v45 v48 v51 v54 v57 v60 v63 v66 v69 = 1#1), ∀ (k0_h11 : k0_cond11 v178 = 1#1), ∀ a, (k0_off82 v183) a + S8x64.size a ≤ S8192x64.size a := fun v25 v27 v30 v33 v36 v39 v42 v45 v48 v51 v54 v57 v60 v63 v66 v69 v178 v183 k0_hw9 k0_h2 k0_h11 => k0_hw9.1 k0_h2 k0_h11
theorem k0_off83_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) (k0_hw9 : k0_chk9 v25 v27 v30 v33 v36 v39 v42 v45 v48 v51 v54 v57 v60 v63 v66 v69 v178 v183), ∀ (k0_h2 : k0_cond2 v25 v27 v30 v33 v36 v39 v42 v45 v48 v51 v54 v57 v60 v63 v66 v69 = 1#1), ∀ (k0_h11 : k0_cond11 v178 = 1#1), ∀ a, (k0_off83 v183) a + S1x16.size a ≤ S8x64.size a := fun v25 v27 v30 v33 v36 v39 v42 v45 v48 v51 v54 v57 v60 v63 v66 v69 v178 v183 k0_hw9 k0_h2 k0_h11 => k0_hw9.2.1 k0_h2 k0_h11
theorem k0_off85_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) (k0_hw9 : k0_chk9 v25 v27 v30 v33 v36 v39 v42 v45 v48 v51 v54 v57 v60 v63 v66 v69 v178 v183), ∀ (k0_h2 : k0_cond2 v25 v27 v30 v33 v36 v39 v42 v45 v48 v51 v54 v57 v60 v63 v66 v69 = 1#1), ∀ (k0_h11 : k0_cond11 v178 = 1#1), ∀ a, (k0_off85 v183) a + S1x16.size a ≤ S8x64.size a := fun v25 v27 v30 v33 v36 v39 v42 v45 v48 v51 v54 v57 v60 v63 v66 v69 v178 v183 k0_hw9 k0_h2 k0_h11 => k0_hw9.2.2.1 k0_h2 k0_h11
theorem k0_off87_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) (k0_hw9 : k0_chk9 v25 v27 v30 v33 v36 v39 v42 v45 v48 v51 v54 v57 v60 v63 v66 v69 v178 v183), ∀ (k0_h2 : k0_cond2 v25 v27 v30 v33 v36 v39 v42 v45 v48 v51 v54 v57 v60 v63 v66 v69 = 1#1), ∀ (k0_h11 : k0_cond11 v178 = 1#1), ∀ a, (k0_off87 v183) a + S1x16.size a ≤ S8x64.size a := fun v25 v27 v30 v33 v36 v39 v42 v45 v48 v51 v54 v57 v60 v63 v66 v69 v178 v183 k0_hw9 k0_h2 k0_h11 => k0_hw9.2.2.2.1 k0_h2 k0_h11
theorem k0_off89_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v178 : BitVec 32) (v183 : BitVec 32) (k0_hw9 : k0_chk9 v25 v27 v30 v33 v36 v39 v42 v45 v48 v51 v54 v57 v60 v63 v66 v69 v178 v183), ∀ (k0_h2 : k0_cond2 v25 v27 v30 v33 v36 v39 v42 v45 v48 v51 v54 v57 v60 v63 v66 v69 = 1#1), ∀ (k0_h11 : k0_cond11 v178 = 1#1), ∀ a, (k0_off89 v183) a + S1x16.size a ≤ S8x64.size a := fun v25 v27 v30 v33 v36 v39 v42 v45 v48 v51 v54 v57 v60 v63 v66 v69 v178 v183 k0_hw9 k0_h2 k0_h11 => k0_hw9.2.2.2.2 k0_h2 k0_h11

def k0_off90 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_71 : BitVec 32 := 16#32
  let v180 : BitVec 32 := Scalar.muli arg31 c16_i32_71
  let c8_i32_72 : BitVec 32 := 8#32
  let v181 : BitVec 32 := Scalar.addi v180 c8_i32_72
  let v292 : Index := Scalar.indexCast v181
  let c48_107 : Index := 48#32
  ![v292.toNat, 48]
def k0_off91 (v192 : BitVec 32) : Fin 2 → Nat :=
  let c0_i32_97 : BitVec 32 := 0#32
  let v250 : BitVec 1 := Scalar.cmpi .sgt v192 c0_i32_97
  let v251 : BitVec 32 := Scalar.extui v250
  let c0_i32_98 : BitVec 32 := 0#32
  let v252 : BitVec 1 := Scalar.cmpi .slt v192 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v192 c8_i32_96
  let c0_i32_101 : BitVec 32 := 0#32
  let v262 : BitVec 1 := Scalar.cmpi .ne v261 c0_i32_101
  let v263 : BitVec 1 := Scalar.andi v260 v262
  let v249 : BitVec 32 := Scalar.divsi v192 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r12 : BitVec 32 := 0#32
  ![v266.toNat, 0]
def k0_cond12 (v187 : BitVec 32) : BitVec 1 :=
  let c0_i32_74 : BitVec 32 := 0#32
  let v188 : BitVec 1 := Scalar.cmpi .eq v187 c0_i32_74
  let v193 : BitVec 32 := Scalar.extui v188
  let c0_i32_76 : BitVec 32 := 0#32
  let v194 : BitVec 1 := Scalar.cmpi .ne v193 c0_i32_76
  v194

def k0_off92 (v192 : BitVec 32) : Fin 2 → Nat :=
  let c0_i32_97 : BitVec 32 := 0#32
  let v250 : BitVec 1 := Scalar.cmpi .sgt v192 c0_i32_97
  let v251 : BitVec 32 := Scalar.extui v250
  let c0_i32_98 : BitVec 32 := 0#32
  let v252 : BitVec 1 := Scalar.cmpi .slt v192 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v192 c8_i32_96
  let c0_i32_101 : BitVec 32 := 0#32
  let v262 : BitVec 1 := Scalar.cmpi .ne v261 c0_i32_101
  let v263 : BitVec 1 := Scalar.andi v260 v262
  let v249 : BitVec 32 := Scalar.divsi v192 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v192 v266
  let v268 : Index := Scalar.indexCast v267
  let c0 : Index := 0#32
  ![v268.toNat, 0]
def k0_off93 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_75 : BitVec 32 := 16#32
  let v189 : BitVec 32 := Scalar.muli arg31 c16_i32_75
  let c9_i32 : BitVec 32 := 9#32
  let v190 : BitVec 32 := Scalar.addi v189 c9_i32
  let v271 : Index := Scalar.indexCast v190
  let c0_104 : Index := 0#32
  ![v271.toNat, 0]
def k0_off94 (v192 : BitVec 32) : Fin 2 → Nat :=
  let c0_i32_97 : BitVec 32 := 0#32
  let v250 : BitVec 1 := Scalar.cmpi .sgt v192 c0_i32_97
  let v251 : BitVec 32 := Scalar.extui v250
  let c0_i32_98 : BitVec 32 := 0#32
  let v252 : BitVec 1 := Scalar.cmpi .slt v192 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v192 c8_i32_96
  let c0_i32_101 : BitVec 32 := 0#32
  let v262 : BitVec 1 := Scalar.cmpi .ne v261 c0_i32_101
  let v263 : BitVec 1 := Scalar.andi v260 v262
  let v249 : BitVec 32 := Scalar.divsi v192 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v192 v266
  let v275 : Index := Scalar.indexCast v267
  let c16 : Index := 16#32
  ![v275.toNat, 16]
def k0_off95 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_75 : BitVec 32 := 16#32
  let v189 : BitVec 32 := Scalar.muli arg31 c16_i32_75
  let c9_i32 : BitVec 32 := 9#32
  let v190 : BitVec 32 := Scalar.addi v189 c9_i32
  let v278 : Index := Scalar.indexCast v190
  let c16_105 : Index := 16#32
  ![v278.toNat, 16]
def k0_off96 (v192 : BitVec 32) : Fin 2 → Nat :=
  let c0_i32_97 : BitVec 32 := 0#32
  let v250 : BitVec 1 := Scalar.cmpi .sgt v192 c0_i32_97
  let v251 : BitVec 32 := Scalar.extui v250
  let c0_i32_98 : BitVec 32 := 0#32
  let v252 : BitVec 1 := Scalar.cmpi .slt v192 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v192 c8_i32_96
  let c0_i32_101 : BitVec 32 := 0#32
  let v262 : BitVec 1 := Scalar.cmpi .ne v261 c0_i32_101
  let v263 : BitVec 1 := Scalar.andi v260 v262
  let v249 : BitVec 32 := Scalar.divsi v192 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v192 v266
  let v282 : Index := Scalar.indexCast v267
  let c32 : Index := 32#32
  ![v282.toNat, 32]
def k0_off97 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_75 : BitVec 32 := 16#32
  let v189 : BitVec 32 := Scalar.muli arg31 c16_i32_75
  let c9_i32 : BitVec 32 := 9#32
  let v190 : BitVec 32 := Scalar.addi v189 c9_i32
  let v285 : Index := Scalar.indexCast v190
  let c32_106 : Index := 32#32
  ![v285.toNat, 32]
def k0_off98 (v192 : BitVec 32) : Fin 2 → Nat :=
  let c0_i32_97 : BitVec 32 := 0#32
  let v250 : BitVec 1 := Scalar.cmpi .sgt v192 c0_i32_97
  let v251 : BitVec 32 := Scalar.extui v250
  let c0_i32_98 : BitVec 32 := 0#32
  let v252 : BitVec 1 := Scalar.cmpi .slt v192 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v192 c8_i32_96
  let c0_i32_101 : BitVec 32 := 0#32
  let v262 : BitVec 1 := Scalar.cmpi .ne v261 c0_i32_101
  let v263 : BitVec 1 := Scalar.andi v260 v262
  let v249 : BitVec 32 := Scalar.divsi v192 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v192 v266
  let v289 : Index := Scalar.indexCast v267
  let c48 : Index := 48#32
  ![v289.toNat, 48]

def k0_chk10 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) : Prop :=
  (∀ (k0_h2 : k0_cond2 v25 v27 v30 v33 v36 v39 v42 v45 v48 v51 v54 v57 v60 v63 v66 v69 = 1#1), ∀ (k0_h12 : k0_cond12 v187 = 1#1), ∀ a, (k0_off91 v192) a + S8x64.size a ≤ S8192x64.size a) ∧
  (∀ (k0_h2 : k0_cond2 v25 v27 v30 v33 v36 v39 v42 v45 v48 v51 v54 v57 v60 v63 v66 v69 = 1#1), ∀ (k0_h12 : k0_cond12 v187 = 1#1), ∀ a, (k0_off92 v192) a + S1x16.size a ≤ S8x64.size a) ∧
  (∀ (k0_h2 : k0_cond2 v25 v27 v30 v33 v36 v39 v42 v45 v48 v51 v54 v57 v60 v63 v66 v69 = 1#1), ∀ (k0_h12 : k0_cond12 v187 = 1#1), ∀ a, (k0_off94 v192) a + S1x16.size a ≤ S8x64.size a) ∧
  (∀ (k0_h2 : k0_cond2 v25 v27 v30 v33 v36 v39 v42 v45 v48 v51 v54 v57 v60 v63 v66 v69 = 1#1), ∀ (k0_h12 : k0_cond12 v187 = 1#1), ∀ a, (k0_off96 v192) a + S1x16.size a ≤ S8x64.size a) ∧
  (∀ (k0_h2 : k0_cond2 v25 v27 v30 v33 v36 v39 v42 v45 v48 v51 v54 v57 v60 v63 v66 v69 = 1#1), ∀ (k0_h12 : k0_cond12 v187 = 1#1), ∀ a, (k0_off98 v192) a + S1x16.size a ≤ S8x64.size a)
theorem k0_off91_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) (k0_hw10 : k0_chk10 v25 v27 v30 v33 v36 v39 v42 v45 v48 v51 v54 v57 v60 v63 v66 v69 v187 v192), ∀ (k0_h2 : k0_cond2 v25 v27 v30 v33 v36 v39 v42 v45 v48 v51 v54 v57 v60 v63 v66 v69 = 1#1), ∀ (k0_h12 : k0_cond12 v187 = 1#1), ∀ a, (k0_off91 v192) a + S8x64.size a ≤ S8192x64.size a := fun v25 v27 v30 v33 v36 v39 v42 v45 v48 v51 v54 v57 v60 v63 v66 v69 v187 v192 k0_hw10 k0_h2 k0_h12 => k0_hw10.1 k0_h2 k0_h12
theorem k0_off92_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) (k0_hw10 : k0_chk10 v25 v27 v30 v33 v36 v39 v42 v45 v48 v51 v54 v57 v60 v63 v66 v69 v187 v192), ∀ (k0_h2 : k0_cond2 v25 v27 v30 v33 v36 v39 v42 v45 v48 v51 v54 v57 v60 v63 v66 v69 = 1#1), ∀ (k0_h12 : k0_cond12 v187 = 1#1), ∀ a, (k0_off92 v192) a + S1x16.size a ≤ S8x64.size a := fun v25 v27 v30 v33 v36 v39 v42 v45 v48 v51 v54 v57 v60 v63 v66 v69 v187 v192 k0_hw10 k0_h2 k0_h12 => k0_hw10.2.1 k0_h2 k0_h12
theorem k0_off94_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) (k0_hw10 : k0_chk10 v25 v27 v30 v33 v36 v39 v42 v45 v48 v51 v54 v57 v60 v63 v66 v69 v187 v192), ∀ (k0_h2 : k0_cond2 v25 v27 v30 v33 v36 v39 v42 v45 v48 v51 v54 v57 v60 v63 v66 v69 = 1#1), ∀ (k0_h12 : k0_cond12 v187 = 1#1), ∀ a, (k0_off94 v192) a + S1x16.size a ≤ S8x64.size a := fun v25 v27 v30 v33 v36 v39 v42 v45 v48 v51 v54 v57 v60 v63 v66 v69 v187 v192 k0_hw10 k0_h2 k0_h12 => k0_hw10.2.2.1 k0_h2 k0_h12
theorem k0_off96_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) (k0_hw10 : k0_chk10 v25 v27 v30 v33 v36 v39 v42 v45 v48 v51 v54 v57 v60 v63 v66 v69 v187 v192), ∀ (k0_h2 : k0_cond2 v25 v27 v30 v33 v36 v39 v42 v45 v48 v51 v54 v57 v60 v63 v66 v69 = 1#1), ∀ (k0_h12 : k0_cond12 v187 = 1#1), ∀ a, (k0_off96 v192) a + S1x16.size a ≤ S8x64.size a := fun v25 v27 v30 v33 v36 v39 v42 v45 v48 v51 v54 v57 v60 v63 v66 v69 v187 v192 k0_hw10 k0_h2 k0_h12 => k0_hw10.2.2.2.1 k0_h2 k0_h12
theorem k0_off98_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v187 : BitVec 32) (v192 : BitVec 32) (k0_hw10 : k0_chk10 v25 v27 v30 v33 v36 v39 v42 v45 v48 v51 v54 v57 v60 v63 v66 v69 v187 v192), ∀ (k0_h2 : k0_cond2 v25 v27 v30 v33 v36 v39 v42 v45 v48 v51 v54 v57 v60 v63 v66 v69 = 1#1), ∀ (k0_h12 : k0_cond12 v187 = 1#1), ∀ a, (k0_off98 v192) a + S1x16.size a ≤ S8x64.size a := fun v25 v27 v30 v33 v36 v39 v42 v45 v48 v51 v54 v57 v60 v63 v66 v69 v187 v192 k0_hw10 k0_h2 k0_h12 => k0_hw10.2.2.2.2 k0_h2 k0_h12

def k0_off99 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_75 : BitVec 32 := 16#32
  let v189 : BitVec 32 := Scalar.muli arg31 c16_i32_75
  let c9_i32 : BitVec 32 := 9#32
  let v190 : BitVec 32 := Scalar.addi v189 c9_i32
  let v292 : Index := Scalar.indexCast v190
  let c48_107 : Index := 48#32
  ![v292.toNat, 48]
def k0_off100 (v201 : BitVec 32) : Fin 2 → Nat :=
  let c0_i32_97 : BitVec 32 := 0#32
  let v250 : BitVec 1 := Scalar.cmpi .sgt v201 c0_i32_97
  let v251 : BitVec 32 := Scalar.extui v250
  let c0_i32_98 : BitVec 32 := 0#32
  let v252 : BitVec 1 := Scalar.cmpi .slt v201 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v201 c8_i32_96
  let c0_i32_101 : BitVec 32 := 0#32
  let v262 : BitVec 1 := Scalar.cmpi .ne v261 c0_i32_101
  let v263 : BitVec 1 := Scalar.andi v260 v262
  let v249 : BitVec 32 := Scalar.divsi v201 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r13 : BitVec 32 := 0#32
  ![v266.toNat, 0]
def k0_cond13 (v196 : BitVec 32) : BitVec 1 :=
  let c0_i32_77 : BitVec 32 := 0#32
  let v197 : BitVec 1 := Scalar.cmpi .eq v196 c0_i32_77
  let v202 : BitVec 32 := Scalar.extui v197
  let c0_i32_79 : BitVec 32 := 0#32
  let v203 : BitVec 1 := Scalar.cmpi .ne v202 c0_i32_79
  v203

def k0_off101 (v201 : BitVec 32) : Fin 2 → Nat :=
  let c0_i32_97 : BitVec 32 := 0#32
  let v250 : BitVec 1 := Scalar.cmpi .sgt v201 c0_i32_97
  let v251 : BitVec 32 := Scalar.extui v250
  let c0_i32_98 : BitVec 32 := 0#32
  let v252 : BitVec 1 := Scalar.cmpi .slt v201 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v201 c8_i32_96
  let c0_i32_101 : BitVec 32 := 0#32
  let v262 : BitVec 1 := Scalar.cmpi .ne v261 c0_i32_101
  let v263 : BitVec 1 := Scalar.andi v260 v262
  let v249 : BitVec 32 := Scalar.divsi v201 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v201 v266
  let v268 : Index := Scalar.indexCast v267
  let c0 : Index := 0#32
  ![v268.toNat, 0]
def k0_off102 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_78 : BitVec 32 := 16#32
  let v198 : BitVec 32 := Scalar.muli arg31 c16_i32_78
  let c10_i32 : BitVec 32 := 10#32
  let v199 : BitVec 32 := Scalar.addi v198 c10_i32
  let v271 : Index := Scalar.indexCast v199
  let c0_104 : Index := 0#32
  ![v271.toNat, 0]
def k0_off103 (v201 : BitVec 32) : Fin 2 → Nat :=
  let c0_i32_97 : BitVec 32 := 0#32
  let v250 : BitVec 1 := Scalar.cmpi .sgt v201 c0_i32_97
  let v251 : BitVec 32 := Scalar.extui v250
  let c0_i32_98 : BitVec 32 := 0#32
  let v252 : BitVec 1 := Scalar.cmpi .slt v201 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v201 c8_i32_96
  let c0_i32_101 : BitVec 32 := 0#32
  let v262 : BitVec 1 := Scalar.cmpi .ne v261 c0_i32_101
  let v263 : BitVec 1 := Scalar.andi v260 v262
  let v249 : BitVec 32 := Scalar.divsi v201 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v201 v266
  let v275 : Index := Scalar.indexCast v267
  let c16 : Index := 16#32
  ![v275.toNat, 16]
def k0_off104 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_78 : BitVec 32 := 16#32
  let v198 : BitVec 32 := Scalar.muli arg31 c16_i32_78
  let c10_i32 : BitVec 32 := 10#32
  let v199 : BitVec 32 := Scalar.addi v198 c10_i32
  let v278 : Index := Scalar.indexCast v199
  let c16_105 : Index := 16#32
  ![v278.toNat, 16]
def k0_off105 (v201 : BitVec 32) : Fin 2 → Nat :=
  let c0_i32_97 : BitVec 32 := 0#32
  let v250 : BitVec 1 := Scalar.cmpi .sgt v201 c0_i32_97
  let v251 : BitVec 32 := Scalar.extui v250
  let c0_i32_98 : BitVec 32 := 0#32
  let v252 : BitVec 1 := Scalar.cmpi .slt v201 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v201 c8_i32_96
  let c0_i32_101 : BitVec 32 := 0#32
  let v262 : BitVec 1 := Scalar.cmpi .ne v261 c0_i32_101
  let v263 : BitVec 1 := Scalar.andi v260 v262
  let v249 : BitVec 32 := Scalar.divsi v201 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v201 v266
  let v282 : Index := Scalar.indexCast v267
  let c32 : Index := 32#32
  ![v282.toNat, 32]
def k0_off106 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_78 : BitVec 32 := 16#32
  let v198 : BitVec 32 := Scalar.muli arg31 c16_i32_78
  let c10_i32 : BitVec 32 := 10#32
  let v199 : BitVec 32 := Scalar.addi v198 c10_i32
  let v285 : Index := Scalar.indexCast v199
  let c32_106 : Index := 32#32
  ![v285.toNat, 32]
def k0_off107 (v201 : BitVec 32) : Fin 2 → Nat :=
  let c0_i32_97 : BitVec 32 := 0#32
  let v250 : BitVec 1 := Scalar.cmpi .sgt v201 c0_i32_97
  let v251 : BitVec 32 := Scalar.extui v250
  let c0_i32_98 : BitVec 32 := 0#32
  let v252 : BitVec 1 := Scalar.cmpi .slt v201 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v201 c8_i32_96
  let c0_i32_101 : BitVec 32 := 0#32
  let v262 : BitVec 1 := Scalar.cmpi .ne v261 c0_i32_101
  let v263 : BitVec 1 := Scalar.andi v260 v262
  let v249 : BitVec 32 := Scalar.divsi v201 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v201 v266
  let v289 : Index := Scalar.indexCast v267
  let c48 : Index := 48#32
  ![v289.toNat, 48]

def k0_chk11 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) : Prop :=
  (∀ (k0_h2 : k0_cond2 v25 v27 v30 v33 v36 v39 v42 v45 v48 v51 v54 v57 v60 v63 v66 v69 = 1#1), ∀ (k0_h13 : k0_cond13 v196 = 1#1), ∀ a, (k0_off100 v201) a + S8x64.size a ≤ S8192x64.size a) ∧
  (∀ (k0_h2 : k0_cond2 v25 v27 v30 v33 v36 v39 v42 v45 v48 v51 v54 v57 v60 v63 v66 v69 = 1#1), ∀ (k0_h13 : k0_cond13 v196 = 1#1), ∀ a, (k0_off101 v201) a + S1x16.size a ≤ S8x64.size a) ∧
  (∀ (k0_h2 : k0_cond2 v25 v27 v30 v33 v36 v39 v42 v45 v48 v51 v54 v57 v60 v63 v66 v69 = 1#1), ∀ (k0_h13 : k0_cond13 v196 = 1#1), ∀ a, (k0_off103 v201) a + S1x16.size a ≤ S8x64.size a) ∧
  (∀ (k0_h2 : k0_cond2 v25 v27 v30 v33 v36 v39 v42 v45 v48 v51 v54 v57 v60 v63 v66 v69 = 1#1), ∀ (k0_h13 : k0_cond13 v196 = 1#1), ∀ a, (k0_off105 v201) a + S1x16.size a ≤ S8x64.size a) ∧
  (∀ (k0_h2 : k0_cond2 v25 v27 v30 v33 v36 v39 v42 v45 v48 v51 v54 v57 v60 v63 v66 v69 = 1#1), ∀ (k0_h13 : k0_cond13 v196 = 1#1), ∀ a, (k0_off107 v201) a + S1x16.size a ≤ S8x64.size a)
theorem k0_off100_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) (k0_hw11 : k0_chk11 v25 v27 v30 v33 v36 v39 v42 v45 v48 v51 v54 v57 v60 v63 v66 v69 v196 v201), ∀ (k0_h2 : k0_cond2 v25 v27 v30 v33 v36 v39 v42 v45 v48 v51 v54 v57 v60 v63 v66 v69 = 1#1), ∀ (k0_h13 : k0_cond13 v196 = 1#1), ∀ a, (k0_off100 v201) a + S8x64.size a ≤ S8192x64.size a := fun v25 v27 v30 v33 v36 v39 v42 v45 v48 v51 v54 v57 v60 v63 v66 v69 v196 v201 k0_hw11 k0_h2 k0_h13 => k0_hw11.1 k0_h2 k0_h13
theorem k0_off101_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) (k0_hw11 : k0_chk11 v25 v27 v30 v33 v36 v39 v42 v45 v48 v51 v54 v57 v60 v63 v66 v69 v196 v201), ∀ (k0_h2 : k0_cond2 v25 v27 v30 v33 v36 v39 v42 v45 v48 v51 v54 v57 v60 v63 v66 v69 = 1#1), ∀ (k0_h13 : k0_cond13 v196 = 1#1), ∀ a, (k0_off101 v201) a + S1x16.size a ≤ S8x64.size a := fun v25 v27 v30 v33 v36 v39 v42 v45 v48 v51 v54 v57 v60 v63 v66 v69 v196 v201 k0_hw11 k0_h2 k0_h13 => k0_hw11.2.1 k0_h2 k0_h13
theorem k0_off103_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) (k0_hw11 : k0_chk11 v25 v27 v30 v33 v36 v39 v42 v45 v48 v51 v54 v57 v60 v63 v66 v69 v196 v201), ∀ (k0_h2 : k0_cond2 v25 v27 v30 v33 v36 v39 v42 v45 v48 v51 v54 v57 v60 v63 v66 v69 = 1#1), ∀ (k0_h13 : k0_cond13 v196 = 1#1), ∀ a, (k0_off103 v201) a + S1x16.size a ≤ S8x64.size a := fun v25 v27 v30 v33 v36 v39 v42 v45 v48 v51 v54 v57 v60 v63 v66 v69 v196 v201 k0_hw11 k0_h2 k0_h13 => k0_hw11.2.2.1 k0_h2 k0_h13
theorem k0_off105_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) (k0_hw11 : k0_chk11 v25 v27 v30 v33 v36 v39 v42 v45 v48 v51 v54 v57 v60 v63 v66 v69 v196 v201), ∀ (k0_h2 : k0_cond2 v25 v27 v30 v33 v36 v39 v42 v45 v48 v51 v54 v57 v60 v63 v66 v69 = 1#1), ∀ (k0_h13 : k0_cond13 v196 = 1#1), ∀ a, (k0_off105 v201) a + S1x16.size a ≤ S8x64.size a := fun v25 v27 v30 v33 v36 v39 v42 v45 v48 v51 v54 v57 v60 v63 v66 v69 v196 v201 k0_hw11 k0_h2 k0_h13 => k0_hw11.2.2.2.1 k0_h2 k0_h13
theorem k0_off107_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v196 : BitVec 32) (v201 : BitVec 32) (k0_hw11 : k0_chk11 v25 v27 v30 v33 v36 v39 v42 v45 v48 v51 v54 v57 v60 v63 v66 v69 v196 v201), ∀ (k0_h2 : k0_cond2 v25 v27 v30 v33 v36 v39 v42 v45 v48 v51 v54 v57 v60 v63 v66 v69 = 1#1), ∀ (k0_h13 : k0_cond13 v196 = 1#1), ∀ a, (k0_off107 v201) a + S1x16.size a ≤ S8x64.size a := fun v25 v27 v30 v33 v36 v39 v42 v45 v48 v51 v54 v57 v60 v63 v66 v69 v196 v201 k0_hw11 k0_h2 k0_h13 => k0_hw11.2.2.2.2 k0_h2 k0_h13

def k0_off108 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_78 : BitVec 32 := 16#32
  let v198 : BitVec 32 := Scalar.muli arg31 c16_i32_78
  let c10_i32 : BitVec 32 := 10#32
  let v199 : BitVec 32 := Scalar.addi v198 c10_i32
  let v292 : Index := Scalar.indexCast v199
  let c48_107 : Index := 48#32
  ![v292.toNat, 48]
def k0_off109 (v210 : BitVec 32) : Fin 2 → Nat :=
  let c0_i32_97 : BitVec 32 := 0#32
  let v250 : BitVec 1 := Scalar.cmpi .sgt v210 c0_i32_97
  let v251 : BitVec 32 := Scalar.extui v250
  let c0_i32_98 : BitVec 32 := 0#32
  let v252 : BitVec 1 := Scalar.cmpi .slt v210 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v210 c8_i32_96
  let c0_i32_101 : BitVec 32 := 0#32
  let v262 : BitVec 1 := Scalar.cmpi .ne v261 c0_i32_101
  let v263 : BitVec 1 := Scalar.andi v260 v262
  let v249 : BitVec 32 := Scalar.divsi v210 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r14 : BitVec 32 := 0#32
  ![v266.toNat, 0]
def k0_cond14 (v205 : BitVec 32) : BitVec 1 :=
  let c0_i32_80 : BitVec 32 := 0#32
  let v206 : BitVec 1 := Scalar.cmpi .eq v205 c0_i32_80
  let v211 : BitVec 32 := Scalar.extui v206
  let c0_i32_82 : BitVec 32 := 0#32
  let v212 : BitVec 1 := Scalar.cmpi .ne v211 c0_i32_82
  v212

def k0_off110 (v210 : BitVec 32) : Fin 2 → Nat :=
  let c0_i32_97 : BitVec 32 := 0#32
  let v250 : BitVec 1 := Scalar.cmpi .sgt v210 c0_i32_97
  let v251 : BitVec 32 := Scalar.extui v250
  let c0_i32_98 : BitVec 32 := 0#32
  let v252 : BitVec 1 := Scalar.cmpi .slt v210 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v210 c8_i32_96
  let c0_i32_101 : BitVec 32 := 0#32
  let v262 : BitVec 1 := Scalar.cmpi .ne v261 c0_i32_101
  let v263 : BitVec 1 := Scalar.andi v260 v262
  let v249 : BitVec 32 := Scalar.divsi v210 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v210 v266
  let v268 : Index := Scalar.indexCast v267
  let c0 : Index := 0#32
  ![v268.toNat, 0]
def k0_off111 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_81 : BitVec 32 := 16#32
  let v207 : BitVec 32 := Scalar.muli arg31 c16_i32_81
  let c11_i32 : BitVec 32 := 11#32
  let v208 : BitVec 32 := Scalar.addi v207 c11_i32
  let v271 : Index := Scalar.indexCast v208
  let c0_104 : Index := 0#32
  ![v271.toNat, 0]
def k0_off112 (v210 : BitVec 32) : Fin 2 → Nat :=
  let c0_i32_97 : BitVec 32 := 0#32
  let v250 : BitVec 1 := Scalar.cmpi .sgt v210 c0_i32_97
  let v251 : BitVec 32 := Scalar.extui v250
  let c0_i32_98 : BitVec 32 := 0#32
  let v252 : BitVec 1 := Scalar.cmpi .slt v210 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v210 c8_i32_96
  let c0_i32_101 : BitVec 32 := 0#32
  let v262 : BitVec 1 := Scalar.cmpi .ne v261 c0_i32_101
  let v263 : BitVec 1 := Scalar.andi v260 v262
  let v249 : BitVec 32 := Scalar.divsi v210 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v210 v266
  let v275 : Index := Scalar.indexCast v267
  let c16 : Index := 16#32
  ![v275.toNat, 16]
def k0_off113 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_81 : BitVec 32 := 16#32
  let v207 : BitVec 32 := Scalar.muli arg31 c16_i32_81
  let c11_i32 : BitVec 32 := 11#32
  let v208 : BitVec 32 := Scalar.addi v207 c11_i32
  let v278 : Index := Scalar.indexCast v208
  let c16_105 : Index := 16#32
  ![v278.toNat, 16]
def k0_off114 (v210 : BitVec 32) : Fin 2 → Nat :=
  let c0_i32_97 : BitVec 32 := 0#32
  let v250 : BitVec 1 := Scalar.cmpi .sgt v210 c0_i32_97
  let v251 : BitVec 32 := Scalar.extui v250
  let c0_i32_98 : BitVec 32 := 0#32
  let v252 : BitVec 1 := Scalar.cmpi .slt v210 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v210 c8_i32_96
  let c0_i32_101 : BitVec 32 := 0#32
  let v262 : BitVec 1 := Scalar.cmpi .ne v261 c0_i32_101
  let v263 : BitVec 1 := Scalar.andi v260 v262
  let v249 : BitVec 32 := Scalar.divsi v210 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v210 v266
  let v282 : Index := Scalar.indexCast v267
  let c32 : Index := 32#32
  ![v282.toNat, 32]
def k0_off115 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_81 : BitVec 32 := 16#32
  let v207 : BitVec 32 := Scalar.muli arg31 c16_i32_81
  let c11_i32 : BitVec 32 := 11#32
  let v208 : BitVec 32 := Scalar.addi v207 c11_i32
  let v285 : Index := Scalar.indexCast v208
  let c32_106 : Index := 32#32
  ![v285.toNat, 32]
def k0_off116 (v210 : BitVec 32) : Fin 2 → Nat :=
  let c0_i32_97 : BitVec 32 := 0#32
  let v250 : BitVec 1 := Scalar.cmpi .sgt v210 c0_i32_97
  let v251 : BitVec 32 := Scalar.extui v250
  let c0_i32_98 : BitVec 32 := 0#32
  let v252 : BitVec 1 := Scalar.cmpi .slt v210 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v210 c8_i32_96
  let c0_i32_101 : BitVec 32 := 0#32
  let v262 : BitVec 1 := Scalar.cmpi .ne v261 c0_i32_101
  let v263 : BitVec 1 := Scalar.andi v260 v262
  let v249 : BitVec 32 := Scalar.divsi v210 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v210 v266
  let v289 : Index := Scalar.indexCast v267
  let c48 : Index := 48#32
  ![v289.toNat, 48]

def k0_chk12 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) : Prop :=
  (∀ (k0_h2 : k0_cond2 v25 v27 v30 v33 v36 v39 v42 v45 v48 v51 v54 v57 v60 v63 v66 v69 = 1#1), ∀ (k0_h14 : k0_cond14 v205 = 1#1), ∀ a, (k0_off109 v210) a + S8x64.size a ≤ S8192x64.size a) ∧
  (∀ (k0_h2 : k0_cond2 v25 v27 v30 v33 v36 v39 v42 v45 v48 v51 v54 v57 v60 v63 v66 v69 = 1#1), ∀ (k0_h14 : k0_cond14 v205 = 1#1), ∀ a, (k0_off110 v210) a + S1x16.size a ≤ S8x64.size a) ∧
  (∀ (k0_h2 : k0_cond2 v25 v27 v30 v33 v36 v39 v42 v45 v48 v51 v54 v57 v60 v63 v66 v69 = 1#1), ∀ (k0_h14 : k0_cond14 v205 = 1#1), ∀ a, (k0_off112 v210) a + S1x16.size a ≤ S8x64.size a) ∧
  (∀ (k0_h2 : k0_cond2 v25 v27 v30 v33 v36 v39 v42 v45 v48 v51 v54 v57 v60 v63 v66 v69 = 1#1), ∀ (k0_h14 : k0_cond14 v205 = 1#1), ∀ a, (k0_off114 v210) a + S1x16.size a ≤ S8x64.size a) ∧
  (∀ (k0_h2 : k0_cond2 v25 v27 v30 v33 v36 v39 v42 v45 v48 v51 v54 v57 v60 v63 v66 v69 = 1#1), ∀ (k0_h14 : k0_cond14 v205 = 1#1), ∀ a, (k0_off116 v210) a + S1x16.size a ≤ S8x64.size a)
theorem k0_off109_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) (k0_hw12 : k0_chk12 v25 v27 v30 v33 v36 v39 v42 v45 v48 v51 v54 v57 v60 v63 v66 v69 v205 v210), ∀ (k0_h2 : k0_cond2 v25 v27 v30 v33 v36 v39 v42 v45 v48 v51 v54 v57 v60 v63 v66 v69 = 1#1), ∀ (k0_h14 : k0_cond14 v205 = 1#1), ∀ a, (k0_off109 v210) a + S8x64.size a ≤ S8192x64.size a := fun v25 v27 v30 v33 v36 v39 v42 v45 v48 v51 v54 v57 v60 v63 v66 v69 v205 v210 k0_hw12 k0_h2 k0_h14 => k0_hw12.1 k0_h2 k0_h14
theorem k0_off110_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) (k0_hw12 : k0_chk12 v25 v27 v30 v33 v36 v39 v42 v45 v48 v51 v54 v57 v60 v63 v66 v69 v205 v210), ∀ (k0_h2 : k0_cond2 v25 v27 v30 v33 v36 v39 v42 v45 v48 v51 v54 v57 v60 v63 v66 v69 = 1#1), ∀ (k0_h14 : k0_cond14 v205 = 1#1), ∀ a, (k0_off110 v210) a + S1x16.size a ≤ S8x64.size a := fun v25 v27 v30 v33 v36 v39 v42 v45 v48 v51 v54 v57 v60 v63 v66 v69 v205 v210 k0_hw12 k0_h2 k0_h14 => k0_hw12.2.1 k0_h2 k0_h14
theorem k0_off112_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) (k0_hw12 : k0_chk12 v25 v27 v30 v33 v36 v39 v42 v45 v48 v51 v54 v57 v60 v63 v66 v69 v205 v210), ∀ (k0_h2 : k0_cond2 v25 v27 v30 v33 v36 v39 v42 v45 v48 v51 v54 v57 v60 v63 v66 v69 = 1#1), ∀ (k0_h14 : k0_cond14 v205 = 1#1), ∀ a, (k0_off112 v210) a + S1x16.size a ≤ S8x64.size a := fun v25 v27 v30 v33 v36 v39 v42 v45 v48 v51 v54 v57 v60 v63 v66 v69 v205 v210 k0_hw12 k0_h2 k0_h14 => k0_hw12.2.2.1 k0_h2 k0_h14
theorem k0_off114_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) (k0_hw12 : k0_chk12 v25 v27 v30 v33 v36 v39 v42 v45 v48 v51 v54 v57 v60 v63 v66 v69 v205 v210), ∀ (k0_h2 : k0_cond2 v25 v27 v30 v33 v36 v39 v42 v45 v48 v51 v54 v57 v60 v63 v66 v69 = 1#1), ∀ (k0_h14 : k0_cond14 v205 = 1#1), ∀ a, (k0_off114 v210) a + S1x16.size a ≤ S8x64.size a := fun v25 v27 v30 v33 v36 v39 v42 v45 v48 v51 v54 v57 v60 v63 v66 v69 v205 v210 k0_hw12 k0_h2 k0_h14 => k0_hw12.2.2.2.1 k0_h2 k0_h14
theorem k0_off116_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v205 : BitVec 32) (v210 : BitVec 32) (k0_hw12 : k0_chk12 v25 v27 v30 v33 v36 v39 v42 v45 v48 v51 v54 v57 v60 v63 v66 v69 v205 v210), ∀ (k0_h2 : k0_cond2 v25 v27 v30 v33 v36 v39 v42 v45 v48 v51 v54 v57 v60 v63 v66 v69 = 1#1), ∀ (k0_h14 : k0_cond14 v205 = 1#1), ∀ a, (k0_off116 v210) a + S1x16.size a ≤ S8x64.size a := fun v25 v27 v30 v33 v36 v39 v42 v45 v48 v51 v54 v57 v60 v63 v66 v69 v205 v210 k0_hw12 k0_h2 k0_h14 => k0_hw12.2.2.2.2 k0_h2 k0_h14

def k0_off117 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_81 : BitVec 32 := 16#32
  let v207 : BitVec 32 := Scalar.muli arg31 c16_i32_81
  let c11_i32 : BitVec 32 := 11#32
  let v208 : BitVec 32 := Scalar.addi v207 c11_i32
  let v292 : Index := Scalar.indexCast v208
  let c48_107 : Index := 48#32
  ![v292.toNat, 48]
def k0_off118 (v219 : BitVec 32) : Fin 2 → Nat :=
  let c0_i32_97 : BitVec 32 := 0#32
  let v250 : BitVec 1 := Scalar.cmpi .sgt v219 c0_i32_97
  let v251 : BitVec 32 := Scalar.extui v250
  let c0_i32_98 : BitVec 32 := 0#32
  let v252 : BitVec 1 := Scalar.cmpi .slt v219 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v219 c8_i32_96
  let c0_i32_101 : BitVec 32 := 0#32
  let v262 : BitVec 1 := Scalar.cmpi .ne v261 c0_i32_101
  let v263 : BitVec 1 := Scalar.andi v260 v262
  let v249 : BitVec 32 := Scalar.divsi v219 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r15 : BitVec 32 := 0#32
  ![v266.toNat, 0]
def k0_cond15 (v214 : BitVec 32) : BitVec 1 :=
  let c0_i32_83 : BitVec 32 := 0#32
  let v215 : BitVec 1 := Scalar.cmpi .eq v214 c0_i32_83
  let v220 : BitVec 32 := Scalar.extui v215
  let c0_i32_85 : BitVec 32 := 0#32
  let v221 : BitVec 1 := Scalar.cmpi .ne v220 c0_i32_85
  v221

def k0_off119 (v219 : BitVec 32) : Fin 2 → Nat :=
  let c0_i32_97 : BitVec 32 := 0#32
  let v250 : BitVec 1 := Scalar.cmpi .sgt v219 c0_i32_97
  let v251 : BitVec 32 := Scalar.extui v250
  let c0_i32_98 : BitVec 32 := 0#32
  let v252 : BitVec 1 := Scalar.cmpi .slt v219 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v219 c8_i32_96
  let c0_i32_101 : BitVec 32 := 0#32
  let v262 : BitVec 1 := Scalar.cmpi .ne v261 c0_i32_101
  let v263 : BitVec 1 := Scalar.andi v260 v262
  let v249 : BitVec 32 := Scalar.divsi v219 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v219 v266
  let v268 : Index := Scalar.indexCast v267
  let c0 : Index := 0#32
  ![v268.toNat, 0]
def k0_off120 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_84 : BitVec 32 := 16#32
  let v216 : BitVec 32 := Scalar.muli arg31 c16_i32_84
  let c12_i32 : BitVec 32 := 12#32
  let v217 : BitVec 32 := Scalar.addi v216 c12_i32
  let v271 : Index := Scalar.indexCast v217
  let c0_104 : Index := 0#32
  ![v271.toNat, 0]
def k0_off121 (v219 : BitVec 32) : Fin 2 → Nat :=
  let c0_i32_97 : BitVec 32 := 0#32
  let v250 : BitVec 1 := Scalar.cmpi .sgt v219 c0_i32_97
  let v251 : BitVec 32 := Scalar.extui v250
  let c0_i32_98 : BitVec 32 := 0#32
  let v252 : BitVec 1 := Scalar.cmpi .slt v219 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v219 c8_i32_96
  let c0_i32_101 : BitVec 32 := 0#32
  let v262 : BitVec 1 := Scalar.cmpi .ne v261 c0_i32_101
  let v263 : BitVec 1 := Scalar.andi v260 v262
  let v249 : BitVec 32 := Scalar.divsi v219 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v219 v266
  let v275 : Index := Scalar.indexCast v267
  let c16 : Index := 16#32
  ![v275.toNat, 16]
def k0_off122 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_84 : BitVec 32 := 16#32
  let v216 : BitVec 32 := Scalar.muli arg31 c16_i32_84
  let c12_i32 : BitVec 32 := 12#32
  let v217 : BitVec 32 := Scalar.addi v216 c12_i32
  let v278 : Index := Scalar.indexCast v217
  let c16_105 : Index := 16#32
  ![v278.toNat, 16]
def k0_off123 (v219 : BitVec 32) : Fin 2 → Nat :=
  let c0_i32_97 : BitVec 32 := 0#32
  let v250 : BitVec 1 := Scalar.cmpi .sgt v219 c0_i32_97
  let v251 : BitVec 32 := Scalar.extui v250
  let c0_i32_98 : BitVec 32 := 0#32
  let v252 : BitVec 1 := Scalar.cmpi .slt v219 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v219 c8_i32_96
  let c0_i32_101 : BitVec 32 := 0#32
  let v262 : BitVec 1 := Scalar.cmpi .ne v261 c0_i32_101
  let v263 : BitVec 1 := Scalar.andi v260 v262
  let v249 : BitVec 32 := Scalar.divsi v219 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v219 v266
  let v282 : Index := Scalar.indexCast v267
  let c32 : Index := 32#32
  ![v282.toNat, 32]
def k0_off124 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_84 : BitVec 32 := 16#32
  let v216 : BitVec 32 := Scalar.muli arg31 c16_i32_84
  let c12_i32 : BitVec 32 := 12#32
  let v217 : BitVec 32 := Scalar.addi v216 c12_i32
  let v285 : Index := Scalar.indexCast v217
  let c32_106 : Index := 32#32
  ![v285.toNat, 32]
def k0_off125 (v219 : BitVec 32) : Fin 2 → Nat :=
  let c0_i32_97 : BitVec 32 := 0#32
  let v250 : BitVec 1 := Scalar.cmpi .sgt v219 c0_i32_97
  let v251 : BitVec 32 := Scalar.extui v250
  let c0_i32_98 : BitVec 32 := 0#32
  let v252 : BitVec 1 := Scalar.cmpi .slt v219 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v219 c8_i32_96
  let c0_i32_101 : BitVec 32 := 0#32
  let v262 : BitVec 1 := Scalar.cmpi .ne v261 c0_i32_101
  let v263 : BitVec 1 := Scalar.andi v260 v262
  let v249 : BitVec 32 := Scalar.divsi v219 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v219 v266
  let v289 : Index := Scalar.indexCast v267
  let c48 : Index := 48#32
  ![v289.toNat, 48]

def k0_chk13 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) : Prop :=
  (∀ (k0_h2 : k0_cond2 v25 v27 v30 v33 v36 v39 v42 v45 v48 v51 v54 v57 v60 v63 v66 v69 = 1#1), ∀ (k0_h15 : k0_cond15 v214 = 1#1), ∀ a, (k0_off118 v219) a + S8x64.size a ≤ S8192x64.size a) ∧
  (∀ (k0_h2 : k0_cond2 v25 v27 v30 v33 v36 v39 v42 v45 v48 v51 v54 v57 v60 v63 v66 v69 = 1#1), ∀ (k0_h15 : k0_cond15 v214 = 1#1), ∀ a, (k0_off119 v219) a + S1x16.size a ≤ S8x64.size a) ∧
  (∀ (k0_h2 : k0_cond2 v25 v27 v30 v33 v36 v39 v42 v45 v48 v51 v54 v57 v60 v63 v66 v69 = 1#1), ∀ (k0_h15 : k0_cond15 v214 = 1#1), ∀ a, (k0_off121 v219) a + S1x16.size a ≤ S8x64.size a) ∧
  (∀ (k0_h2 : k0_cond2 v25 v27 v30 v33 v36 v39 v42 v45 v48 v51 v54 v57 v60 v63 v66 v69 = 1#1), ∀ (k0_h15 : k0_cond15 v214 = 1#1), ∀ a, (k0_off123 v219) a + S1x16.size a ≤ S8x64.size a) ∧
  (∀ (k0_h2 : k0_cond2 v25 v27 v30 v33 v36 v39 v42 v45 v48 v51 v54 v57 v60 v63 v66 v69 = 1#1), ∀ (k0_h15 : k0_cond15 v214 = 1#1), ∀ a, (k0_off125 v219) a + S1x16.size a ≤ S8x64.size a)
theorem k0_off118_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) (k0_hw13 : k0_chk13 v25 v27 v30 v33 v36 v39 v42 v45 v48 v51 v54 v57 v60 v63 v66 v69 v214 v219), ∀ (k0_h2 : k0_cond2 v25 v27 v30 v33 v36 v39 v42 v45 v48 v51 v54 v57 v60 v63 v66 v69 = 1#1), ∀ (k0_h15 : k0_cond15 v214 = 1#1), ∀ a, (k0_off118 v219) a + S8x64.size a ≤ S8192x64.size a := fun v25 v27 v30 v33 v36 v39 v42 v45 v48 v51 v54 v57 v60 v63 v66 v69 v214 v219 k0_hw13 k0_h2 k0_h15 => k0_hw13.1 k0_h2 k0_h15
theorem k0_off119_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) (k0_hw13 : k0_chk13 v25 v27 v30 v33 v36 v39 v42 v45 v48 v51 v54 v57 v60 v63 v66 v69 v214 v219), ∀ (k0_h2 : k0_cond2 v25 v27 v30 v33 v36 v39 v42 v45 v48 v51 v54 v57 v60 v63 v66 v69 = 1#1), ∀ (k0_h15 : k0_cond15 v214 = 1#1), ∀ a, (k0_off119 v219) a + S1x16.size a ≤ S8x64.size a := fun v25 v27 v30 v33 v36 v39 v42 v45 v48 v51 v54 v57 v60 v63 v66 v69 v214 v219 k0_hw13 k0_h2 k0_h15 => k0_hw13.2.1 k0_h2 k0_h15
theorem k0_off121_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) (k0_hw13 : k0_chk13 v25 v27 v30 v33 v36 v39 v42 v45 v48 v51 v54 v57 v60 v63 v66 v69 v214 v219), ∀ (k0_h2 : k0_cond2 v25 v27 v30 v33 v36 v39 v42 v45 v48 v51 v54 v57 v60 v63 v66 v69 = 1#1), ∀ (k0_h15 : k0_cond15 v214 = 1#1), ∀ a, (k0_off121 v219) a + S1x16.size a ≤ S8x64.size a := fun v25 v27 v30 v33 v36 v39 v42 v45 v48 v51 v54 v57 v60 v63 v66 v69 v214 v219 k0_hw13 k0_h2 k0_h15 => k0_hw13.2.2.1 k0_h2 k0_h15
theorem k0_off123_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) (k0_hw13 : k0_chk13 v25 v27 v30 v33 v36 v39 v42 v45 v48 v51 v54 v57 v60 v63 v66 v69 v214 v219), ∀ (k0_h2 : k0_cond2 v25 v27 v30 v33 v36 v39 v42 v45 v48 v51 v54 v57 v60 v63 v66 v69 = 1#1), ∀ (k0_h15 : k0_cond15 v214 = 1#1), ∀ a, (k0_off123 v219) a + S1x16.size a ≤ S8x64.size a := fun v25 v27 v30 v33 v36 v39 v42 v45 v48 v51 v54 v57 v60 v63 v66 v69 v214 v219 k0_hw13 k0_h2 k0_h15 => k0_hw13.2.2.2.1 k0_h2 k0_h15
theorem k0_off125_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v214 : BitVec 32) (v219 : BitVec 32) (k0_hw13 : k0_chk13 v25 v27 v30 v33 v36 v39 v42 v45 v48 v51 v54 v57 v60 v63 v66 v69 v214 v219), ∀ (k0_h2 : k0_cond2 v25 v27 v30 v33 v36 v39 v42 v45 v48 v51 v54 v57 v60 v63 v66 v69 = 1#1), ∀ (k0_h15 : k0_cond15 v214 = 1#1), ∀ a, (k0_off125 v219) a + S1x16.size a ≤ S8x64.size a := fun v25 v27 v30 v33 v36 v39 v42 v45 v48 v51 v54 v57 v60 v63 v66 v69 v214 v219 k0_hw13 k0_h2 k0_h15 => k0_hw13.2.2.2.2 k0_h2 k0_h15

def k0_off126 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_84 : BitVec 32 := 16#32
  let v216 : BitVec 32 := Scalar.muli arg31 c16_i32_84
  let c12_i32 : BitVec 32 := 12#32
  let v217 : BitVec 32 := Scalar.addi v216 c12_i32
  let v292 : Index := Scalar.indexCast v217
  let c48_107 : Index := 48#32
  ![v292.toNat, 48]
def k0_off127 (v228 : BitVec 32) : Fin 2 → Nat :=
  let c0_i32_97 : BitVec 32 := 0#32
  let v250 : BitVec 1 := Scalar.cmpi .sgt v228 c0_i32_97
  let v251 : BitVec 32 := Scalar.extui v250
  let c0_i32_98 : BitVec 32 := 0#32
  let v252 : BitVec 1 := Scalar.cmpi .slt v228 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v228 c8_i32_96
  let c0_i32_101 : BitVec 32 := 0#32
  let v262 : BitVec 1 := Scalar.cmpi .ne v261 c0_i32_101
  let v263 : BitVec 1 := Scalar.andi v260 v262
  let v249 : BitVec 32 := Scalar.divsi v228 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r16 : BitVec 32 := 0#32
  ![v266.toNat, 0]
def k0_cond16 (v223 : BitVec 32) : BitVec 1 :=
  let c0_i32_86 : BitVec 32 := 0#32
  let v224 : BitVec 1 := Scalar.cmpi .eq v223 c0_i32_86
  let v229 : BitVec 32 := Scalar.extui v224
  let c0_i32_88 : BitVec 32 := 0#32
  let v230 : BitVec 1 := Scalar.cmpi .ne v229 c0_i32_88
  v230

def k0_off128 (v228 : BitVec 32) : Fin 2 → Nat :=
  let c0_i32_97 : BitVec 32 := 0#32
  let v250 : BitVec 1 := Scalar.cmpi .sgt v228 c0_i32_97
  let v251 : BitVec 32 := Scalar.extui v250
  let c0_i32_98 : BitVec 32 := 0#32
  let v252 : BitVec 1 := Scalar.cmpi .slt v228 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v228 c8_i32_96
  let c0_i32_101 : BitVec 32 := 0#32
  let v262 : BitVec 1 := Scalar.cmpi .ne v261 c0_i32_101
  let v263 : BitVec 1 := Scalar.andi v260 v262
  let v249 : BitVec 32 := Scalar.divsi v228 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v228 v266
  let v268 : Index := Scalar.indexCast v267
  let c0 : Index := 0#32
  ![v268.toNat, 0]
def k0_off129 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_87 : BitVec 32 := 16#32
  let v225 : BitVec 32 := Scalar.muli arg31 c16_i32_87
  let c13_i32 : BitVec 32 := 13#32
  let v226 : BitVec 32 := Scalar.addi v225 c13_i32
  let v271 : Index := Scalar.indexCast v226
  let c0_104 : Index := 0#32
  ![v271.toNat, 0]
def k0_off130 (v228 : BitVec 32) : Fin 2 → Nat :=
  let c0_i32_97 : BitVec 32 := 0#32
  let v250 : BitVec 1 := Scalar.cmpi .sgt v228 c0_i32_97
  let v251 : BitVec 32 := Scalar.extui v250
  let c0_i32_98 : BitVec 32 := 0#32
  let v252 : BitVec 1 := Scalar.cmpi .slt v228 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v228 c8_i32_96
  let c0_i32_101 : BitVec 32 := 0#32
  let v262 : BitVec 1 := Scalar.cmpi .ne v261 c0_i32_101
  let v263 : BitVec 1 := Scalar.andi v260 v262
  let v249 : BitVec 32 := Scalar.divsi v228 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v228 v266
  let v275 : Index := Scalar.indexCast v267
  let c16 : Index := 16#32
  ![v275.toNat, 16]
def k0_off131 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_87 : BitVec 32 := 16#32
  let v225 : BitVec 32 := Scalar.muli arg31 c16_i32_87
  let c13_i32 : BitVec 32 := 13#32
  let v226 : BitVec 32 := Scalar.addi v225 c13_i32
  let v278 : Index := Scalar.indexCast v226
  let c16_105 : Index := 16#32
  ![v278.toNat, 16]
def k0_off132 (v228 : BitVec 32) : Fin 2 → Nat :=
  let c0_i32_97 : BitVec 32 := 0#32
  let v250 : BitVec 1 := Scalar.cmpi .sgt v228 c0_i32_97
  let v251 : BitVec 32 := Scalar.extui v250
  let c0_i32_98 : BitVec 32 := 0#32
  let v252 : BitVec 1 := Scalar.cmpi .slt v228 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v228 c8_i32_96
  let c0_i32_101 : BitVec 32 := 0#32
  let v262 : BitVec 1 := Scalar.cmpi .ne v261 c0_i32_101
  let v263 : BitVec 1 := Scalar.andi v260 v262
  let v249 : BitVec 32 := Scalar.divsi v228 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v228 v266
  let v282 : Index := Scalar.indexCast v267
  let c32 : Index := 32#32
  ![v282.toNat, 32]
def k0_off133 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_87 : BitVec 32 := 16#32
  let v225 : BitVec 32 := Scalar.muli arg31 c16_i32_87
  let c13_i32 : BitVec 32 := 13#32
  let v226 : BitVec 32 := Scalar.addi v225 c13_i32
  let v285 : Index := Scalar.indexCast v226
  let c32_106 : Index := 32#32
  ![v285.toNat, 32]
def k0_off134 (v228 : BitVec 32) : Fin 2 → Nat :=
  let c0_i32_97 : BitVec 32 := 0#32
  let v250 : BitVec 1 := Scalar.cmpi .sgt v228 c0_i32_97
  let v251 : BitVec 32 := Scalar.extui v250
  let c0_i32_98 : BitVec 32 := 0#32
  let v252 : BitVec 1 := Scalar.cmpi .slt v228 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v228 c8_i32_96
  let c0_i32_101 : BitVec 32 := 0#32
  let v262 : BitVec 1 := Scalar.cmpi .ne v261 c0_i32_101
  let v263 : BitVec 1 := Scalar.andi v260 v262
  let v249 : BitVec 32 := Scalar.divsi v228 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v228 v266
  let v289 : Index := Scalar.indexCast v267
  let c48 : Index := 48#32
  ![v289.toNat, 48]

def k0_chk14 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) : Prop :=
  (∀ (k0_h2 : k0_cond2 v25 v27 v30 v33 v36 v39 v42 v45 v48 v51 v54 v57 v60 v63 v66 v69 = 1#1), ∀ (k0_h16 : k0_cond16 v223 = 1#1), ∀ a, (k0_off127 v228) a + S8x64.size a ≤ S8192x64.size a) ∧
  (∀ (k0_h2 : k0_cond2 v25 v27 v30 v33 v36 v39 v42 v45 v48 v51 v54 v57 v60 v63 v66 v69 = 1#1), ∀ (k0_h16 : k0_cond16 v223 = 1#1), ∀ a, (k0_off128 v228) a + S1x16.size a ≤ S8x64.size a) ∧
  (∀ (k0_h2 : k0_cond2 v25 v27 v30 v33 v36 v39 v42 v45 v48 v51 v54 v57 v60 v63 v66 v69 = 1#1), ∀ (k0_h16 : k0_cond16 v223 = 1#1), ∀ a, (k0_off130 v228) a + S1x16.size a ≤ S8x64.size a) ∧
  (∀ (k0_h2 : k0_cond2 v25 v27 v30 v33 v36 v39 v42 v45 v48 v51 v54 v57 v60 v63 v66 v69 = 1#1), ∀ (k0_h16 : k0_cond16 v223 = 1#1), ∀ a, (k0_off132 v228) a + S1x16.size a ≤ S8x64.size a) ∧
  (∀ (k0_h2 : k0_cond2 v25 v27 v30 v33 v36 v39 v42 v45 v48 v51 v54 v57 v60 v63 v66 v69 = 1#1), ∀ (k0_h16 : k0_cond16 v223 = 1#1), ∀ a, (k0_off134 v228) a + S1x16.size a ≤ S8x64.size a)
theorem k0_off127_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) (k0_hw14 : k0_chk14 v25 v27 v30 v33 v36 v39 v42 v45 v48 v51 v54 v57 v60 v63 v66 v69 v223 v228), ∀ (k0_h2 : k0_cond2 v25 v27 v30 v33 v36 v39 v42 v45 v48 v51 v54 v57 v60 v63 v66 v69 = 1#1), ∀ (k0_h16 : k0_cond16 v223 = 1#1), ∀ a, (k0_off127 v228) a + S8x64.size a ≤ S8192x64.size a := fun v25 v27 v30 v33 v36 v39 v42 v45 v48 v51 v54 v57 v60 v63 v66 v69 v223 v228 k0_hw14 k0_h2 k0_h16 => k0_hw14.1 k0_h2 k0_h16
theorem k0_off128_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) (k0_hw14 : k0_chk14 v25 v27 v30 v33 v36 v39 v42 v45 v48 v51 v54 v57 v60 v63 v66 v69 v223 v228), ∀ (k0_h2 : k0_cond2 v25 v27 v30 v33 v36 v39 v42 v45 v48 v51 v54 v57 v60 v63 v66 v69 = 1#1), ∀ (k0_h16 : k0_cond16 v223 = 1#1), ∀ a, (k0_off128 v228) a + S1x16.size a ≤ S8x64.size a := fun v25 v27 v30 v33 v36 v39 v42 v45 v48 v51 v54 v57 v60 v63 v66 v69 v223 v228 k0_hw14 k0_h2 k0_h16 => k0_hw14.2.1 k0_h2 k0_h16
theorem k0_off130_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) (k0_hw14 : k0_chk14 v25 v27 v30 v33 v36 v39 v42 v45 v48 v51 v54 v57 v60 v63 v66 v69 v223 v228), ∀ (k0_h2 : k0_cond2 v25 v27 v30 v33 v36 v39 v42 v45 v48 v51 v54 v57 v60 v63 v66 v69 = 1#1), ∀ (k0_h16 : k0_cond16 v223 = 1#1), ∀ a, (k0_off130 v228) a + S1x16.size a ≤ S8x64.size a := fun v25 v27 v30 v33 v36 v39 v42 v45 v48 v51 v54 v57 v60 v63 v66 v69 v223 v228 k0_hw14 k0_h2 k0_h16 => k0_hw14.2.2.1 k0_h2 k0_h16
theorem k0_off132_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) (k0_hw14 : k0_chk14 v25 v27 v30 v33 v36 v39 v42 v45 v48 v51 v54 v57 v60 v63 v66 v69 v223 v228), ∀ (k0_h2 : k0_cond2 v25 v27 v30 v33 v36 v39 v42 v45 v48 v51 v54 v57 v60 v63 v66 v69 = 1#1), ∀ (k0_h16 : k0_cond16 v223 = 1#1), ∀ a, (k0_off132 v228) a + S1x16.size a ≤ S8x64.size a := fun v25 v27 v30 v33 v36 v39 v42 v45 v48 v51 v54 v57 v60 v63 v66 v69 v223 v228 k0_hw14 k0_h2 k0_h16 => k0_hw14.2.2.2.1 k0_h2 k0_h16
theorem k0_off134_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v223 : BitVec 32) (v228 : BitVec 32) (k0_hw14 : k0_chk14 v25 v27 v30 v33 v36 v39 v42 v45 v48 v51 v54 v57 v60 v63 v66 v69 v223 v228), ∀ (k0_h2 : k0_cond2 v25 v27 v30 v33 v36 v39 v42 v45 v48 v51 v54 v57 v60 v63 v66 v69 = 1#1), ∀ (k0_h16 : k0_cond16 v223 = 1#1), ∀ a, (k0_off134 v228) a + S1x16.size a ≤ S8x64.size a := fun v25 v27 v30 v33 v36 v39 v42 v45 v48 v51 v54 v57 v60 v63 v66 v69 v223 v228 k0_hw14 k0_h2 k0_h16 => k0_hw14.2.2.2.2 k0_h2 k0_h16

def k0_off135 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_87 : BitVec 32 := 16#32
  let v225 : BitVec 32 := Scalar.muli arg31 c16_i32_87
  let c13_i32 : BitVec 32 := 13#32
  let v226 : BitVec 32 := Scalar.addi v225 c13_i32
  let v292 : Index := Scalar.indexCast v226
  let c48_107 : Index := 48#32
  ![v292.toNat, 48]
def k0_off136 (v237 : BitVec 32) : Fin 2 → Nat :=
  let c0_i32_97 : BitVec 32 := 0#32
  let v250 : BitVec 1 := Scalar.cmpi .sgt v237 c0_i32_97
  let v251 : BitVec 32 := Scalar.extui v250
  let c0_i32_98 : BitVec 32 := 0#32
  let v252 : BitVec 1 := Scalar.cmpi .slt v237 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v237 c8_i32_96
  let c0_i32_101 : BitVec 32 := 0#32
  let v262 : BitVec 1 := Scalar.cmpi .ne v261 c0_i32_101
  let v263 : BitVec 1 := Scalar.andi v260 v262
  let v249 : BitVec 32 := Scalar.divsi v237 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r17 : BitVec 32 := 0#32
  ![v266.toNat, 0]
def k0_cond17 (v232 : BitVec 32) : BitVec 1 :=
  let c0_i32_89 : BitVec 32 := 0#32
  let v233 : BitVec 1 := Scalar.cmpi .eq v232 c0_i32_89
  let v238 : BitVec 32 := Scalar.extui v233
  let c0_i32_91 : BitVec 32 := 0#32
  let v239 : BitVec 1 := Scalar.cmpi .ne v238 c0_i32_91
  v239

def k0_off137 (v237 : BitVec 32) : Fin 2 → Nat :=
  let c0_i32_97 : BitVec 32 := 0#32
  let v250 : BitVec 1 := Scalar.cmpi .sgt v237 c0_i32_97
  let v251 : BitVec 32 := Scalar.extui v250
  let c0_i32_98 : BitVec 32 := 0#32
  let v252 : BitVec 1 := Scalar.cmpi .slt v237 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v237 c8_i32_96
  let c0_i32_101 : BitVec 32 := 0#32
  let v262 : BitVec 1 := Scalar.cmpi .ne v261 c0_i32_101
  let v263 : BitVec 1 := Scalar.andi v260 v262
  let v249 : BitVec 32 := Scalar.divsi v237 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v237 v266
  let v268 : Index := Scalar.indexCast v267
  let c0 : Index := 0#32
  ![v268.toNat, 0]
def k0_off138 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_90 : BitVec 32 := 16#32
  let v234 : BitVec 32 := Scalar.muli arg31 c16_i32_90
  let c14_i32 : BitVec 32 := 14#32
  let v235 : BitVec 32 := Scalar.addi v234 c14_i32
  let v271 : Index := Scalar.indexCast v235
  let c0_104 : Index := 0#32
  ![v271.toNat, 0]
def k0_off139 (v237 : BitVec 32) : Fin 2 → Nat :=
  let c0_i32_97 : BitVec 32 := 0#32
  let v250 : BitVec 1 := Scalar.cmpi .sgt v237 c0_i32_97
  let v251 : BitVec 32 := Scalar.extui v250
  let c0_i32_98 : BitVec 32 := 0#32
  let v252 : BitVec 1 := Scalar.cmpi .slt v237 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v237 c8_i32_96
  let c0_i32_101 : BitVec 32 := 0#32
  let v262 : BitVec 1 := Scalar.cmpi .ne v261 c0_i32_101
  let v263 : BitVec 1 := Scalar.andi v260 v262
  let v249 : BitVec 32 := Scalar.divsi v237 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v237 v266
  let v275 : Index := Scalar.indexCast v267
  let c16 : Index := 16#32
  ![v275.toNat, 16]
def k0_off140 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_90 : BitVec 32 := 16#32
  let v234 : BitVec 32 := Scalar.muli arg31 c16_i32_90
  let c14_i32 : BitVec 32 := 14#32
  let v235 : BitVec 32 := Scalar.addi v234 c14_i32
  let v278 : Index := Scalar.indexCast v235
  let c16_105 : Index := 16#32
  ![v278.toNat, 16]
def k0_off141 (v237 : BitVec 32) : Fin 2 → Nat :=
  let c0_i32_97 : BitVec 32 := 0#32
  let v250 : BitVec 1 := Scalar.cmpi .sgt v237 c0_i32_97
  let v251 : BitVec 32 := Scalar.extui v250
  let c0_i32_98 : BitVec 32 := 0#32
  let v252 : BitVec 1 := Scalar.cmpi .slt v237 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v237 c8_i32_96
  let c0_i32_101 : BitVec 32 := 0#32
  let v262 : BitVec 1 := Scalar.cmpi .ne v261 c0_i32_101
  let v263 : BitVec 1 := Scalar.andi v260 v262
  let v249 : BitVec 32 := Scalar.divsi v237 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v237 v266
  let v282 : Index := Scalar.indexCast v267
  let c32 : Index := 32#32
  ![v282.toNat, 32]
def k0_off142 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_90 : BitVec 32 := 16#32
  let v234 : BitVec 32 := Scalar.muli arg31 c16_i32_90
  let c14_i32 : BitVec 32 := 14#32
  let v235 : BitVec 32 := Scalar.addi v234 c14_i32
  let v285 : Index := Scalar.indexCast v235
  let c32_106 : Index := 32#32
  ![v285.toNat, 32]
def k0_off143 (v237 : BitVec 32) : Fin 2 → Nat :=
  let c0_i32_97 : BitVec 32 := 0#32
  let v250 : BitVec 1 := Scalar.cmpi .sgt v237 c0_i32_97
  let v251 : BitVec 32 := Scalar.extui v250
  let c0_i32_98 : BitVec 32 := 0#32
  let v252 : BitVec 1 := Scalar.cmpi .slt v237 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v237 c8_i32_96
  let c0_i32_101 : BitVec 32 := 0#32
  let v262 : BitVec 1 := Scalar.cmpi .ne v261 c0_i32_101
  let v263 : BitVec 1 := Scalar.andi v260 v262
  let v249 : BitVec 32 := Scalar.divsi v237 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v237 v266
  let v289 : Index := Scalar.indexCast v267
  let c48 : Index := 48#32
  ![v289.toNat, 48]

def k0_chk15 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) : Prop :=
  (∀ (k0_h2 : k0_cond2 v25 v27 v30 v33 v36 v39 v42 v45 v48 v51 v54 v57 v60 v63 v66 v69 = 1#1), ∀ (k0_h17 : k0_cond17 v232 = 1#1), ∀ a, (k0_off136 v237) a + S8x64.size a ≤ S8192x64.size a) ∧
  (∀ (k0_h2 : k0_cond2 v25 v27 v30 v33 v36 v39 v42 v45 v48 v51 v54 v57 v60 v63 v66 v69 = 1#1), ∀ (k0_h17 : k0_cond17 v232 = 1#1), ∀ a, (k0_off137 v237) a + S1x16.size a ≤ S8x64.size a) ∧
  (∀ (k0_h2 : k0_cond2 v25 v27 v30 v33 v36 v39 v42 v45 v48 v51 v54 v57 v60 v63 v66 v69 = 1#1), ∀ (k0_h17 : k0_cond17 v232 = 1#1), ∀ a, (k0_off139 v237) a + S1x16.size a ≤ S8x64.size a) ∧
  (∀ (k0_h2 : k0_cond2 v25 v27 v30 v33 v36 v39 v42 v45 v48 v51 v54 v57 v60 v63 v66 v69 = 1#1), ∀ (k0_h17 : k0_cond17 v232 = 1#1), ∀ a, (k0_off141 v237) a + S1x16.size a ≤ S8x64.size a) ∧
  (∀ (k0_h2 : k0_cond2 v25 v27 v30 v33 v36 v39 v42 v45 v48 v51 v54 v57 v60 v63 v66 v69 = 1#1), ∀ (k0_h17 : k0_cond17 v232 = 1#1), ∀ a, (k0_off143 v237) a + S1x16.size a ≤ S8x64.size a)
theorem k0_off136_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) (k0_hw15 : k0_chk15 v25 v27 v30 v33 v36 v39 v42 v45 v48 v51 v54 v57 v60 v63 v66 v69 v232 v237), ∀ (k0_h2 : k0_cond2 v25 v27 v30 v33 v36 v39 v42 v45 v48 v51 v54 v57 v60 v63 v66 v69 = 1#1), ∀ (k0_h17 : k0_cond17 v232 = 1#1), ∀ a, (k0_off136 v237) a + S8x64.size a ≤ S8192x64.size a := fun v25 v27 v30 v33 v36 v39 v42 v45 v48 v51 v54 v57 v60 v63 v66 v69 v232 v237 k0_hw15 k0_h2 k0_h17 => k0_hw15.1 k0_h2 k0_h17
theorem k0_off137_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) (k0_hw15 : k0_chk15 v25 v27 v30 v33 v36 v39 v42 v45 v48 v51 v54 v57 v60 v63 v66 v69 v232 v237), ∀ (k0_h2 : k0_cond2 v25 v27 v30 v33 v36 v39 v42 v45 v48 v51 v54 v57 v60 v63 v66 v69 = 1#1), ∀ (k0_h17 : k0_cond17 v232 = 1#1), ∀ a, (k0_off137 v237) a + S1x16.size a ≤ S8x64.size a := fun v25 v27 v30 v33 v36 v39 v42 v45 v48 v51 v54 v57 v60 v63 v66 v69 v232 v237 k0_hw15 k0_h2 k0_h17 => k0_hw15.2.1 k0_h2 k0_h17
theorem k0_off139_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) (k0_hw15 : k0_chk15 v25 v27 v30 v33 v36 v39 v42 v45 v48 v51 v54 v57 v60 v63 v66 v69 v232 v237), ∀ (k0_h2 : k0_cond2 v25 v27 v30 v33 v36 v39 v42 v45 v48 v51 v54 v57 v60 v63 v66 v69 = 1#1), ∀ (k0_h17 : k0_cond17 v232 = 1#1), ∀ a, (k0_off139 v237) a + S1x16.size a ≤ S8x64.size a := fun v25 v27 v30 v33 v36 v39 v42 v45 v48 v51 v54 v57 v60 v63 v66 v69 v232 v237 k0_hw15 k0_h2 k0_h17 => k0_hw15.2.2.1 k0_h2 k0_h17
theorem k0_off141_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) (k0_hw15 : k0_chk15 v25 v27 v30 v33 v36 v39 v42 v45 v48 v51 v54 v57 v60 v63 v66 v69 v232 v237), ∀ (k0_h2 : k0_cond2 v25 v27 v30 v33 v36 v39 v42 v45 v48 v51 v54 v57 v60 v63 v66 v69 = 1#1), ∀ (k0_h17 : k0_cond17 v232 = 1#1), ∀ a, (k0_off141 v237) a + S1x16.size a ≤ S8x64.size a := fun v25 v27 v30 v33 v36 v39 v42 v45 v48 v51 v54 v57 v60 v63 v66 v69 v232 v237 k0_hw15 k0_h2 k0_h17 => k0_hw15.2.2.2.1 k0_h2 k0_h17
theorem k0_off143_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v232 : BitVec 32) (v237 : BitVec 32) (k0_hw15 : k0_chk15 v25 v27 v30 v33 v36 v39 v42 v45 v48 v51 v54 v57 v60 v63 v66 v69 v232 v237), ∀ (k0_h2 : k0_cond2 v25 v27 v30 v33 v36 v39 v42 v45 v48 v51 v54 v57 v60 v63 v66 v69 = 1#1), ∀ (k0_h17 : k0_cond17 v232 = 1#1), ∀ a, (k0_off143 v237) a + S1x16.size a ≤ S8x64.size a := fun v25 v27 v30 v33 v36 v39 v42 v45 v48 v51 v54 v57 v60 v63 v66 v69 v232 v237 k0_hw15 k0_h2 k0_h17 => k0_hw15.2.2.2.2 k0_h2 k0_h17

def k0_off144 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_90 : BitVec 32 := 16#32
  let v234 : BitVec 32 := Scalar.muli arg31 c16_i32_90
  let c14_i32 : BitVec 32 := 14#32
  let v235 : BitVec 32 := Scalar.addi v234 c14_i32
  let v292 : Index := Scalar.indexCast v235
  let c48_107 : Index := 48#32
  ![v292.toNat, 48]
def k0_off145 (v246 : BitVec 32) : Fin 2 → Nat :=
  let c0_i32_97 : BitVec 32 := 0#32
  let v250 : BitVec 1 := Scalar.cmpi .sgt v246 c0_i32_97
  let v251 : BitVec 32 := Scalar.extui v250
  let c0_i32_98 : BitVec 32 := 0#32
  let v252 : BitVec 1 := Scalar.cmpi .slt v246 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v246 c8_i32_96
  let c0_i32_101 : BitVec 32 := 0#32
  let v262 : BitVec 1 := Scalar.cmpi .ne v261 c0_i32_101
  let v263 : BitVec 1 := Scalar.andi v260 v262
  let v249 : BitVec 32 := Scalar.divsi v246 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let c0_i32_108_r18 : BitVec 32 := 0#32
  ![v266.toNat, 0]
def k0_cond18 (v241 : BitVec 32) : BitVec 1 :=
  let c0_i32_92 : BitVec 32 := 0#32
  let v242 : BitVec 1 := Scalar.cmpi .eq v241 c0_i32_92
  let v247 : BitVec 32 := Scalar.extui v242
  let c0_i32_94 : BitVec 32 := 0#32
  let v248 : BitVec 1 := Scalar.cmpi .ne v247 c0_i32_94
  v248

def k0_off146 (v246 : BitVec 32) : Fin 2 → Nat :=
  let c0_i32_97 : BitVec 32 := 0#32
  let v250 : BitVec 1 := Scalar.cmpi .sgt v246 c0_i32_97
  let v251 : BitVec 32 := Scalar.extui v250
  let c0_i32_98 : BitVec 32 := 0#32
  let v252 : BitVec 1 := Scalar.cmpi .slt v246 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v246 c8_i32_96
  let c0_i32_101 : BitVec 32 := 0#32
  let v262 : BitVec 1 := Scalar.cmpi .ne v261 c0_i32_101
  let v263 : BitVec 1 := Scalar.andi v260 v262
  let v249 : BitVec 32 := Scalar.divsi v246 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v246 v266
  let v268 : Index := Scalar.indexCast v267
  let c0 : Index := 0#32
  ![v268.toNat, 0]
def k0_off147 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_93 : BitVec 32 := 16#32
  let v243 : BitVec 32 := Scalar.muli arg31 c16_i32_93
  let c15_i32 : BitVec 32 := 15#32
  let v244 : BitVec 32 := Scalar.addi v243 c15_i32
  let v271 : Index := Scalar.indexCast v244
  let c0_104 : Index := 0#32
  ![v271.toNat, 0]
def k0_off148 (v246 : BitVec 32) : Fin 2 → Nat :=
  let c0_i32_97 : BitVec 32 := 0#32
  let v250 : BitVec 1 := Scalar.cmpi .sgt v246 c0_i32_97
  let v251 : BitVec 32 := Scalar.extui v250
  let c0_i32_98 : BitVec 32 := 0#32
  let v252 : BitVec 1 := Scalar.cmpi .slt v246 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v246 c8_i32_96
  let c0_i32_101 : BitVec 32 := 0#32
  let v262 : BitVec 1 := Scalar.cmpi .ne v261 c0_i32_101
  let v263 : BitVec 1 := Scalar.andi v260 v262
  let v249 : BitVec 32 := Scalar.divsi v246 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v246 v266
  let v275 : Index := Scalar.indexCast v267
  let c16 : Index := 16#32
  ![v275.toNat, 16]
def k0_off149 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_93 : BitVec 32 := 16#32
  let v243 : BitVec 32 := Scalar.muli arg31 c16_i32_93
  let c15_i32 : BitVec 32 := 15#32
  let v244 : BitVec 32 := Scalar.addi v243 c15_i32
  let v278 : Index := Scalar.indexCast v244
  let c16_105 : Index := 16#32
  ![v278.toNat, 16]
def k0_off150 (v246 : BitVec 32) : Fin 2 → Nat :=
  let c0_i32_97 : BitVec 32 := 0#32
  let v250 : BitVec 1 := Scalar.cmpi .sgt v246 c0_i32_97
  let v251 : BitVec 32 := Scalar.extui v250
  let c0_i32_98 : BitVec 32 := 0#32
  let v252 : BitVec 1 := Scalar.cmpi .slt v246 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v246 c8_i32_96
  let c0_i32_101 : BitVec 32 := 0#32
  let v262 : BitVec 1 := Scalar.cmpi .ne v261 c0_i32_101
  let v263 : BitVec 1 := Scalar.andi v260 v262
  let v249 : BitVec 32 := Scalar.divsi v246 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v246 v266
  let v282 : Index := Scalar.indexCast v267
  let c32 : Index := 32#32
  ![v282.toNat, 32]
def k0_off151 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_93 : BitVec 32 := 16#32
  let v243 : BitVec 32 := Scalar.muli arg31 c16_i32_93
  let c15_i32 : BitVec 32 := 15#32
  let v244 : BitVec 32 := Scalar.addi v243 c15_i32
  let v285 : Index := Scalar.indexCast v244
  let c32_106 : Index := 32#32
  ![v285.toNat, 32]
def k0_off152 (v246 : BitVec 32) : Fin 2 → Nat :=
  let c0_i32_97 : BitVec 32 := 0#32
  let v250 : BitVec 1 := Scalar.cmpi .sgt v246 c0_i32_97
  let v251 : BitVec 32 := Scalar.extui v250
  let c0_i32_98 : BitVec 32 := 0#32
  let v252 : BitVec 1 := Scalar.cmpi .slt v246 c0_i32_98
  let v253 : BitVec 32 := Scalar.extui v252
  let v254 : BitVec 32 := Scalar.subi v251 v253
  let c8_i32_96 : BitVec 32 := 8#32
  let c0_i32_99 : BitVec 32 := 0#32
  let v255 : BitVec 1 := Scalar.cmpi .sgt c8_i32_96 c0_i32_99
  let v256 : BitVec 32 := Scalar.extui v255
  let c0_i32_100 : BitVec 32 := 0#32
  let v257 : BitVec 1 := Scalar.cmpi .slt c8_i32_96 c0_i32_100
  let v258 : BitVec 32 := Scalar.extui v257
  let v259 : BitVec 32 := Scalar.subi v256 v258
  let v260 : BitVec 1 := Scalar.cmpi .ne v254 v259
  let v261 : BitVec 32 := Scalar.remsi v246 c8_i32_96
  let c0_i32_101 : BitVec 32 := 0#32
  let v262 : BitVec 1 := Scalar.cmpi .ne v261 c0_i32_101
  let v263 : BitVec 1 := Scalar.andi v260 v262
  let v249 : BitVec 32 := Scalar.divsi v246 c8_i32_96
  let c1_i32_102 : BitVec 32 := 1#32
  let v264 : BitVec 32 := Scalar.subi v249 c1_i32_102
  let v265 : BitVec 32 := Scalar.select v263 v264 v249
  let c8_i32_103 : BitVec 32 := 8#32
  let v266 : BitVec 32 := Scalar.muli v265 c8_i32_103
  let v267 : BitVec 32 := Scalar.subi v246 v266
  let v289 : Index := Scalar.indexCast v267
  let c48 : Index := 48#32
  ![v289.toNat, 48]

def k0_chk16 (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) : Prop :=
  (∀ (k0_h2 : k0_cond2 v25 v27 v30 v33 v36 v39 v42 v45 v48 v51 v54 v57 v60 v63 v66 v69 = 1#1), ∀ (k0_h18 : k0_cond18 v241 = 1#1), ∀ a, (k0_off145 v246) a + S8x64.size a ≤ S8192x64.size a) ∧
  (∀ (k0_h2 : k0_cond2 v25 v27 v30 v33 v36 v39 v42 v45 v48 v51 v54 v57 v60 v63 v66 v69 = 1#1), ∀ (k0_h18 : k0_cond18 v241 = 1#1), ∀ a, (k0_off146 v246) a + S1x16.size a ≤ S8x64.size a) ∧
  (∀ (k0_h2 : k0_cond2 v25 v27 v30 v33 v36 v39 v42 v45 v48 v51 v54 v57 v60 v63 v66 v69 = 1#1), ∀ (k0_h18 : k0_cond18 v241 = 1#1), ∀ a, (k0_off148 v246) a + S1x16.size a ≤ S8x64.size a) ∧
  (∀ (k0_h2 : k0_cond2 v25 v27 v30 v33 v36 v39 v42 v45 v48 v51 v54 v57 v60 v63 v66 v69 = 1#1), ∀ (k0_h18 : k0_cond18 v241 = 1#1), ∀ a, (k0_off150 v246) a + S1x16.size a ≤ S8x64.size a) ∧
  (∀ (k0_h2 : k0_cond2 v25 v27 v30 v33 v36 v39 v42 v45 v48 v51 v54 v57 v60 v63 v66 v69 = 1#1), ∀ (k0_h18 : k0_cond18 v241 = 1#1), ∀ a, (k0_off152 v246) a + S1x16.size a ≤ S8x64.size a)
theorem k0_off145_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) (k0_hw16 : k0_chk16 v25 v27 v30 v33 v36 v39 v42 v45 v48 v51 v54 v57 v60 v63 v66 v69 v241 v246), ∀ (k0_h2 : k0_cond2 v25 v27 v30 v33 v36 v39 v42 v45 v48 v51 v54 v57 v60 v63 v66 v69 = 1#1), ∀ (k0_h18 : k0_cond18 v241 = 1#1), ∀ a, (k0_off145 v246) a + S8x64.size a ≤ S8192x64.size a := fun v25 v27 v30 v33 v36 v39 v42 v45 v48 v51 v54 v57 v60 v63 v66 v69 v241 v246 k0_hw16 k0_h2 k0_h18 => k0_hw16.1 k0_h2 k0_h18
theorem k0_off146_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) (k0_hw16 : k0_chk16 v25 v27 v30 v33 v36 v39 v42 v45 v48 v51 v54 v57 v60 v63 v66 v69 v241 v246), ∀ (k0_h2 : k0_cond2 v25 v27 v30 v33 v36 v39 v42 v45 v48 v51 v54 v57 v60 v63 v66 v69 = 1#1), ∀ (k0_h18 : k0_cond18 v241 = 1#1), ∀ a, (k0_off146 v246) a + S1x16.size a ≤ S8x64.size a := fun v25 v27 v30 v33 v36 v39 v42 v45 v48 v51 v54 v57 v60 v63 v66 v69 v241 v246 k0_hw16 k0_h2 k0_h18 => k0_hw16.2.1 k0_h2 k0_h18
theorem k0_off148_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) (k0_hw16 : k0_chk16 v25 v27 v30 v33 v36 v39 v42 v45 v48 v51 v54 v57 v60 v63 v66 v69 v241 v246), ∀ (k0_h2 : k0_cond2 v25 v27 v30 v33 v36 v39 v42 v45 v48 v51 v54 v57 v60 v63 v66 v69 = 1#1), ∀ (k0_h18 : k0_cond18 v241 = 1#1), ∀ a, (k0_off148 v246) a + S1x16.size a ≤ S8x64.size a := fun v25 v27 v30 v33 v36 v39 v42 v45 v48 v51 v54 v57 v60 v63 v66 v69 v241 v246 k0_hw16 k0_h2 k0_h18 => k0_hw16.2.2.1 k0_h2 k0_h18
theorem k0_off150_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) (k0_hw16 : k0_chk16 v25 v27 v30 v33 v36 v39 v42 v45 v48 v51 v54 v57 v60 v63 v66 v69 v241 v246), ∀ (k0_h2 : k0_cond2 v25 v27 v30 v33 v36 v39 v42 v45 v48 v51 v54 v57 v60 v63 v66 v69 = 1#1), ∀ (k0_h18 : k0_cond18 v241 = 1#1), ∀ a, (k0_off150 v246) a + S1x16.size a ≤ S8x64.size a := fun v25 v27 v30 v33 v36 v39 v42 v45 v48 v51 v54 v57 v60 v63 v66 v69 v241 v246 k0_hw16 k0_h2 k0_h18 => k0_hw16.2.2.2.1 k0_h2 k0_h18
theorem k0_off152_inb : ∀ (v25 : BitVec 32) (v27 : BitVec 32) (v30 : BitVec 32) (v33 : BitVec 32) (v36 : BitVec 32) (v39 : BitVec 32) (v42 : BitVec 32) (v45 : BitVec 32) (v48 : BitVec 32) (v51 : BitVec 32) (v54 : BitVec 32) (v57 : BitVec 32) (v60 : BitVec 32) (v63 : BitVec 32) (v66 : BitVec 32) (v69 : BitVec 32) (v241 : BitVec 32) (v246 : BitVec 32) (k0_hw16 : k0_chk16 v25 v27 v30 v33 v36 v39 v42 v45 v48 v51 v54 v57 v60 v63 v66 v69 v241 v246), ∀ (k0_h2 : k0_cond2 v25 v27 v30 v33 v36 v39 v42 v45 v48 v51 v54 v57 v60 v63 v66 v69 = 1#1), ∀ (k0_h18 : k0_cond18 v241 = 1#1), ∀ a, (k0_off152 v246) a + S1x16.size a ≤ S8x64.size a := fun v25 v27 v30 v33 v36 v39 v42 v45 v48 v51 v54 v57 v60 v63 v66 v69 v241 v246 k0_hw16 k0_h2 k0_h18 => k0_hw16.2.2.2.2 k0_h2 k0_h18

def k0_off153 (k0_t3 : Fin k0_t3_loop.trips) : Fin 2 → Nat :=
  let c0_i32_37 : BitVec 32 := 0#32
  let c1_i32_38 : BitVec 32 := 1#32
  let arg31 : BitVec 32 := Scf.iv c0_i32_37 c1_i32_38 k0_t3
  let c16_i32_93 : BitVec 32 := 16#32
  let v243 : BitVec 32 := Scalar.muli arg31 c16_i32_93
  let c15_i32 : BitVec 32 := 15#32
  let v244 : BitVec 32 := Scalar.addi v243 c15_i32
  let v292 : Index := Scalar.indexCast v244
  let c48_107 : Index := 48#32
  ![v292.toNat, 48]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S131072x64 : Shape := ⟨2, ![131072, 64]⟩
abbrev S131072 : Shape := ⟨1, ![131072]⟩
abbrev S8192x64 : Shape := ⟨2, ![8192, 64]⟩
abbrev S_ : Shape := ⟨0, ![]⟩
abbrev S131072x1 : Shape := ⟨2, ![131072, 1]⟩
abbrev S1 : Shape := ⟨1, ![1]⟩
abbrev S1x1 : Shape := ⟨2, ![1, 1]⟩

abbrev nBuf : Space → Nat
  | .hbm => 30
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S131072, .i1⟩
  | .hbm, ⟨2, _⟩ => ⟨S8192x64, .f32⟩
  | .hbm, ⟨3, _⟩ => ⟨S131072, .i32⟩
  | .hbm, ⟨4, _⟩ => ⟨S_, .i32⟩
  | .hbm, ⟨5, _⟩ => ⟨S131072, .i32⟩
  | .hbm, ⟨6, _⟩ => ⟨S131072, .i1⟩
  | .hbm, ⟨7, _⟩ => ⟨S_, .i32⟩
  | .hbm, ⟨8, _⟩ => ⟨S131072, .i32⟩
  | .hbm, ⟨9, _⟩ => ⟨S131072, .i32⟩
  | .hbm, ⟨10, _⟩ => ⟨S131072, .i32⟩
  | .hbm, ⟨11, _⟩ => ⟨S131072x1, .i32⟩
  | .hbm, ⟨12, _⟩ => ⟨S1, .i32⟩
  | .hbm, ⟨13, _⟩ => ⟨S_, .i32⟩
  | .hbm, ⟨14, _⟩ => ⟨S131072x1, .i32⟩
  | .hbm, ⟨15, _⟩ => ⟨S131072x1, .i1⟩
  | .hbm, ⟨16, _⟩ => ⟨S1x1, .i32⟩
  | .hbm, ⟨17, _⟩ => ⟨S131072x1, .i32⟩
  | .hbm, ⟨18, _⟩ => ⟨S131072x1, .i1⟩
  | .hbm, ⟨19, _⟩ => ⟨S131072x1, .i1⟩
  | .hbm, ⟨20, _⟩ => ⟨S_, .i1⟩
  | .hbm, ⟨21, _⟩ => ⟨S131072, .i1⟩
  | .hbm, ⟨22, _⟩ => ⟨S131072x64, .f32⟩
  | .hbm, ⟨23, _⟩ => ⟨S131072x64, .i1⟩
  | .hbm, ⟨24, _⟩ => ⟨S_, .f32⟩
  | .hbm, ⟨25, _⟩ => ⟨S131072x64, .f32⟩
  | .hbm, ⟨26, _⟩ => ⟨S131072x64, .f32⟩
  | .hbm, ⟨27, _⟩ => ⟨S131072x1, .i1⟩
  | .hbm, ⟨28, _⟩ => ⟨S131072x64, .i1⟩
  | .hbm, ⟨29, _⟩ => ⟨S131072x64, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_call1_v0 : Ref sig .tc := ⟨.hbm, 28, rfl⟩
abbrev main_v2 : Ref sig .tc := ⟨.hbm, 29, rfl⟩

abbrev nD : Nat := 1
abbrev τ : Topo := Topo.v7x

variable {F : FTy → Type} [FloatOps F]
-- ==== Proof.Setup.lean ====
/-
  The launch of the kernel as the certificate reads it: the program's body table, the arrays and scratch buffers by
  name, the memory the launch starts from, and the function of it that every tile writes its rows of.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdx
public import proofs.«01_k».proof.Proof.Gen.KernelIdeal
public import proofs.«01_k».proof.Proof.Gen.KernelIdeal.Skeleton
public import proofs.«01_k».proof.Proof.Gen.Pre_in_range

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch's semaphores and shared buffers: distinct, of the right scopes. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the transfers' counters -/

abbrev UH : Type := URounds (GSem nD τ sig) ℕ
abbrev UU : Type := UH × Counters

/-- The resources the proof speaks of. -/
abbrev MM (F : FTy → Type) : Type := MT nD τ sig (HIx 1) (Elt F) ℕ UU ℕ

abbrev EH : Emb UH (MM F) := embL

/-! ## The arrays -/

abbrev sLoc (d : Dev nD) : Loc nD τ sig := (SparseCore.T d).loc main_arg0
abbrev bLoc (d : Dev nD) : Loc nD τ sig := (SparseCore.T d).loc main_arg1
abbrev eLoc (d : Dev nD) : Loc nD τ sig := (SparseCore.T d).loc main_arg2
abbrev nLoc (d : Dev nD) : Loc nD τ sig := (SparseCore.T d).loc main_arg3
abbrev mLoc (d : Dev nD) : Loc nD τ sig := (SparseCore.T d).loc main_v0
abbrev oLoc (d : Dev nD) : Loc nD τ sig := (SparseCore.T d).loc main_v1

/-- `sampled`, the mask as words, `embed`, `ind` and the result, as a vector subcore names them. -/
abbrev sV : Memref sig .scVector .hbm S131072x64 .f32 := Memref.whole main_arg0_scv
abbrev mV : Memref sig .scVector .hbm S131072 .i32 := Memref.whole main_v0_scv
abbrev eV : Memref sig .scVector .hbm S8192x64 .f32 := Memref.whole main_arg2_scv
abbrev nV : Memref sig .scVector .hbm S131072 .i32 := Memref.whole main_arg3_scv
abbrev oV : Memref sig .scVector .hbm S131072x64 .f32 := Memref.whole main_v1_scv
/-- The tile's scratch: its mask words, a chunk of rows, a group of eight table rows, a chunk of indices. -/
abbrev mkV : Memref sig .scVector .vmem S4096 .i32 := Memref.whole cc0_scratch0
abbrev ckV : Memref sig .scVector .vmem S128x64 .f32 := Memref.whole cc0_scratch1
abbrev g8V : Memref sig .scVector .vmem S8x64 .f32 := Memref.whole cc0_scratch2
abbrev ixV : Memref sig .scVector .vmem S128 .i32 := Memref.whole cc0_scratch3
/-- The six buffers of the ring. -/
abbrev r0V : Memref sig .scVector .vmem S128x64 .f32 := Memref.whole cc0_scratch4
abbrev r1V : Memref sig .scVector .vmem S128x64 .f32 := Memref.whole cc0_scratch5
abbrev r2V : Memref sig .scVector .vmem S128x64 .f32 := Memref.whole cc0_scratch6
abbrev r3V : Memref sig .scVector .vmem S128x64 .f32 := Memref.whole cc0_scratch7
abbrev r4V : Memref sig .scVector .vmem S128x64 .f32 := Memref.whole cc0_scratch8
abbrev r5V : Memref sig .scVector .vmem S128x64 .f32 := Memref.whole cc0_scratch9

/-! ## What the tiles write -/

/-- Row `r`, column `j` of the result: `sampled`'s own entry where the mask word of the row is not zero, else the
    entry of the table row that the row's index names. -/
def outG (fs : S131072x64.Idx → Elt F .f32) (fm : S131072.Idx → BitVec 32) (fe : S8192x64.Idx → Elt F .f32)
    (fn : S131072.Idx → BitVec 32) : S131072x64.Idx → Elt F .f32 := fun x =>
  if fm (ix1 (x 0)) = 0#32 then fe (ix2 ⟨(fn (ix1 (x 0))).toNat % 8192, Nat.mod_lt _ (by decide)⟩ (x 1)) else fs x

/-- Lane by lane, the sum of the first `k` groups of sixteen words of a tile's mask. -/
def accF (g : S4096.Idx → BitVec 32) : Nat → IVec S16 32
  | 0 => fun _ => 0#32
  | k + 1 => fun x => accF g k x + g (ix1 ⟨(16 * k + (x 0).val) % 4096, Nat.mod_lt _ (by decide)⟩)

/-! ## The tile -/

variable (d : Dev nD) (L : grid0.Coords)

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The tile's first row. -/
abbrev row0 (L : grid0.Coords) : Nat := 8192 * (L 1).val + 4096 * (L 0).val

/-- The tile's words of the mask. -/
def maskG (L : grid0.Coords) (fm : S131072.Idx → BitVec 32) : S4096.Idx → BitVec 32 := fun x =>
  fm (ix1 ⟨(row0 L + (x 0).val) % 131072, Nat.mod_lt _ (by decide)⟩)

/-- Chunk `t` of the tile's rows of the result, as the body slices it. -/
abbrev oCk (L : grid0.Coords) (t : Fin 32) : Memref sig .scVector .hbm S128x64 .f32 :=
  oV.slice (Rect.unit (s := S131072x64) (k0_off4 L (BitVec.ofNat 32 (128 * t.val))) S128x64.size (k0_off4_inb L t)) (fun _ => rfl)

/-- The tile's thirty-two DMA semaphores, one by one: the first twelve the ring's, the rest one per scoped copy. -/
abbrev csem (k : Nat) (hk : k < 32 := by decide) : DmaSem sig := ⟨k, hk⟩

/-- The body of a tile, at the arrays, the scratch and the semaphores the launch passes it. -/
abbrev body [FloatOps F] (L : grid0.Coords) :=
  cc0_body (F := F) L sV (Memref.isWhole_whole _) mV (Memref.isWhole_whole _) eV (Memref.isWhole_whole _) nV (Memref.isWhole_whole _)
    oV (Memref.isWhole_whole _) mkV (Memref.isWhole_whole _) ckV (Memref.isWhole_whole _) g8V (Memref.isWhole_whole _)
    ixV (Memref.isWhole_whole _) r0V (Memref.isWhole_whole _) r1V (Memref.isWhole_whole _) r2V (Memref.isWhole_whole _)
    r3V (Memref.isWhole_whole _) r4V (Memref.isWhole_whole _) r5V (Memref.isWhole_whole _)
    cc0_scratch10 cc0_scratch11 cc0_scratch12 cc0_scratch13 cc0_scratch14 cc0_scratch15 cc0_scratch16 cc0_scratch17
    cc0_scratch18 cc0_scratch19 cc0_scratch20 cc0_scratch21
    cc0_scoped0 cc0_scoped1 cc0_scoped2 cc0_scoped3 cc0_scoped4 cc0_scoped5 cc0_scoped6 cc0_scoped7 cc0_scoped8 cc0_scoped9
    cc0_scoped10 cc0_scoped11 cc0_scoped12 cc0_scoped13 cc0_scoped14 cc0_scoped15 cc0_scoped16 cc0_scoped17 cc0_scoped18 cc0_scoped19

end Cert.Proof.Tiles

end
-- ==== Proof.Row.lean ====
/-
  One row of a chunk, as a tile's general path works it: where the row's mask word is zero, the group of eight table
  rows that holds the row's own is copied in and the row is stored over from it, sixteen entries at a time; where it is
  not, the row stays.
-/
module

public import proofs.«01_k».proof.Proof.Setup
public import Idealize.ShloMosaic.Lib.Pipeline.Value

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

/-! ## The program of a row -/

/-- What the body asks of a row's copy and of its four loads: that the rectangles lie in the arrays. -/
def RowOk (H C : Prop) (oT oA oB oC oD : Fin 2 → Nat) : Prop :=
  (∀ (_ : H) (_ : C), ∀ a, oT a + S8x64.size a ≤ S8192x64.size a)
    ∧ (∀ (_ : H) (_ : C), ∀ a, oA a + S1x16.size a ≤ S8x64.size a)
    ∧ (∀ (_ : H) (_ : C), ∀ a, oB a + S1x16.size a ≤ S8x64.size a)
    ∧ (∀ (_ : H) (_ : C), ∀ a, oC a + S1x16.size a ≤ S8x64.size a)
    ∧ (∀ (_ : H) (_ : C), ∀ a, oD a + S1x16.size a ≤ S8x64.size a)

/-- Sixteen entries as the body stores them: through the shape of sixteen and back. -/
abbrev pay16 (v : Vec F S1x16 .f32) : FVec F S1x16 .f32 :=
  shapeCast S1x16 (shapeCast S16 v shapeCasts_S1x16_S16) shapeCasts_S16_S1x16

/-- The entries the body stores are the entries it loaded. -/
theorem pay16_eq (v : Vec F S1x16 .f32) : pay16 v = v := shapeCast_shapeCast _ _ _

/-- One row of the general path, before the program `k`: the copy from the table at `oT`, the four loads of the row of
    the group at `oA`, …, `oD` and the four stores into the chunk at `oa`, …, `od`, all under the condition `C`. -/
abbrev rowStep {α : Type} (L : grid0.Coords) (H : Prop) (h2 : H) (C : Prop) [Decidable C] (s : DmaSems sig S_)
    (oT oA oB oC oD : Fin 2 → Nat) (dec : Decidable (RowOk H C oT oA oB oC oD)) (oa ob oc od : Fin 2 → Nat)
    (ha : ∀ a, oa a + S1x16.size a ≤ S128x64.size a) (hb : ∀ a, ob a + S1x16.size a ≤ S128x64.size a)
    (hc : ∀ a, oc a + S1x16.size a ≤ S128x64.size a) (hd : ∀ a, od a + S1x16.size a ≤ S128x64.size a)
    (k : Prog (TpuEff nD τ sig (Elt F) Λ₀ (.scVector (cV L) (jV L))) α) :
    Prog (TpuEff nD τ sig (Elt F) Λ₀ (.scVector (cV L) (jV L))) α :=
  Prog.lift (TpuEff.assume (RowOk H C oT oA oB oC oD) dec) >>= fun hw =>
    if h : C then do
      Prog.lift (.enqueueDma (eV.slice (Rect.unit (s := S8192x64) oT S8x64.size (hw.down.1 h2 h)) (fun _ => rfl)) (.here g8V) (.dma s.sem)
        (View.wordExact_bits rfl) (Memref.isWhole_whole _).wordExact ⟨Or.inl rfl, trivial⟩)
      Prog.lift (.waitDma2 s.sem (eV.slice (Rect.unit (s := S8192x64) oT S8x64.size (hw.down.1 h2 h)) (fun _ => rfl)) g8V
        (View.wordExact_bits rfl) (Memref.isWhole_whole _).wordExact)
      let vA : Vec F S1x16 .f32 ← Prog.lift (.load g8V (Rect.unit (s := S8x64) oA S1x16.size (hw.down.2.1 h2 h)).toLoadRect (View.loadsAt_vmem h_S1x16))
      let _ : Vec F S1x16 .f32 ← Prog.lift (.load ckV (Rect.unit (s := S128x64) oa S1x16.size ha).toLoadRect (View.loadsAt_vmem h_S1x16))
      Prog.lift (.store ckV (Rect.unit (s := S128x64) oa S1x16.size ha) (pay16 vA) Finset.univ (View.stores_vmem_bits_univ h_S1x16 rfl) (.inl rfl))
      let vB : Vec F S1x16 .f32 ← Prog.lift (.load g8V (Rect.unit (s := S8x64) oB S1x16.size (hw.down.2.2.1 h2 h)).toLoadRect (View.loadsAt_vmem h_S1x16))
      let _ : Vec F S1x16 .f32 ← Prog.lift (.load ckV (Rect.unit (s := S128x64) ob S1x16.size hb).toLoadRect (View.loadsAt_vmem h_S1x16))
      Prog.lift (.store ckV (Rect.unit (s := S128x64) ob S1x16.size hb) (pay16 vB) Finset.univ (View.stores_vmem_bits_univ h_S1x16 rfl) (.inl rfl))
      let vC : Vec F S1x16 .f32 ← Prog.lift (.load g8V (Rect.unit (s := S8x64) oC S1x16.size (hw.down.2.2.2.1 h2 h)).toLoadRect (View.loadsAt_vmem h_S1x16))
      let _ : Vec F S1x16 .f32 ← Prog.lift (.load ckV (Rect.unit (s := S128x64) oc S1x16.size hc).toLoadRect (View.loadsAt_vmem h_S1x16))
      Prog.lift (.store ckV (Rect.unit (s := S128x64) oc S1x16.size hc) (pay16 vC) Finset.univ (View.stores_vmem_bits_univ h_S1x16 rfl) (.inl rfl))
      let vD : Vec F S1x16 .f32 ← Prog.lift (.load g8V (Rect.unit (s := S8x64) oD S1x16.size (hw.down.2.2.2.2 h2 h)).toLoadRect (View.loadsAt_vmem h_S1x16))
      let _ : Vec F S1x16 .f32 ← Prog.lift (.load ckV (Rect.unit (s := S128x64) od S1x16.size hd).toLoadRect (View.loadsAt_vmem h_S1x16))
      Prog.lift (.store ckV (Rect.unit (s := S128x64) od S1x16.size hd) (pay16 vD) Finset.univ (View.stores_vmem_bits_univ h_S1x16 rfl) (.inl rfl))
      k
    else k

/-! ## The state of a chunk between its rows -/

/-- A chunk of which the first `r` rows are finished: there the rows of `g`, after them those of `h`. -/
def ckR (g h : S128x64.Idx → Elt F .f32) (r : Nat) : S128x64.Idx → Elt F .f32 := fun x => if (x 0).val < r then g x else h x

omit [FloatOps F] in
/-- An entry that the body loads from the group of eight table rows it copied is the table's. -/
theorem grp_entry (d : Dev nD) (fe : S8192x64.Idx → Elt F .f32) (g0 : S8x64.Idx → Elt F .f32) (w c : Nat) (hw : w < 8192)
    (hT : ∀ a, (![8 * (w / 8), 0] : Fin 2 → Nat) a + S8x64.size a ≤ S8192x64.size a)
    (hA : ∀ a, (![w % 8, c] : Fin 2 → Nat) a + S1x16.size a ≤ S8x64.size a) (y : S1x16.Idx) (x : Fin 64)
    (hx : x.val = c + (y 1).val) :
    View.readAt (Elt F) g8V.view (Rect.unit (s := S8x64) ![w % 8, c] S1x16.size hA).toLoadRect
        ((g8V).view.writes (Elt F) g0 [⟨Rect.whole S8x64,
          ReadAs.same.apply (View.read (Elt F) (eV.slice (Rect.unit (s := S8192x64) ![8 * (w / 8), 0] S8x64.size hT) (fun _ => rfl)).view fe)⟩]) y
      = fe (ix2 ⟨w, hw⟩ x) := by
  have hy : (y 0).val < 1 := (y 0).isLt
  rw [View.readAt_apply, View.read_writes_whole]
  show fe _ = fe _
  congr 1
  funext a
  apply Fin.ext
  match a with
  | 0 => show 8 * (w / 8) + 1 * (w % 8 + 1 * (y 0).val) = w; omega
  | 1 => show 0 + 1 * (c + 1 * (y 1).val) = x.val; omega

omit [FloatOps F] in
/-- The four stores of a row, of the entries of `g`, finish the row. -/
theorem ckR_writes (d : Dev nD) (g h : S128x64.Idx → Elt F .f32) (r : Nat)
    (ha : ∀ a, (![r, 0] : Fin 2 → Nat) a + S1x16.size a ≤ S128x64.size a) (hb : ∀ a, (![r, 16] : Fin 2 → Nat) a + S1x16.size a ≤ S128x64.size a)
    (hc : ∀ a, (![r, 32] : Fin 2 → Nat) a + S1x16.size a ≤ S128x64.size a) (hd : ∀ a, (![r, 48] : Fin 2 → Nat) a + S1x16.size a ≤ S128x64.size a)
    (vA vB vC vD : S1x16.Idx → Elt F .f32)
    (hA : ∀ (y : S1x16.Idx) (x : S128x64.Idx), (x 0).val = r → (x 1).val = 0 + (y 1).val → vA y = g x)
    (hB : ∀ (y : S1x16.Idx) (x : S128x64.Idx), (x 0).val = r → (x 1).val = 16 + (y 1).val → vB y = g x)
    (hC : ∀ (y : S1x16.Idx) (x : S128x64.Idx), (x 0).val = r → (x 1).val = 32 + (y 1).val → vC y = g x)
    (hD : ∀ (y : S1x16.Idx) (x : S128x64.Idx), (x 0).val = r → (x 1).val = 48 + (y 1).val → vD y = g x) :
    (ckV).view.read (Elt F) ((ckV).view.writes (Elt F) (ckR g h r)
        [⟨Rect.unit (s := S128x64) ![r, 48] S1x16.size hd, vD⟩, ⟨Rect.unit (s := S128x64) ![r, 32] S1x16.size hc, vC⟩,
          ⟨Rect.unit (s := S128x64) ![r, 16] S1x16.size hb, vB⟩, ⟨Rect.unit (s := S128x64) ![r, 0] S1x16.size ha, vA⟩])
      = ckR g h (r + 1) := by
  funext x
  have h1 : (x 1).val < 64 := (x 1).isLt
  by_cases hr : (x 0).val = r
  · have hg : ckR g h (r + 1) x = g x := if_pos (by omega)
    rw [hg, View.read_writes_apply_of_pieces (G := fun x => if (x 0).val = r then g x else ckR g h r x)]
    · exact if_pos hr
    · intro p hp y
      simp only [List.mem_cons, List.not_mem_nil, or_false] at hp
      have hq : ∀ (o : Nat) (ho : ∀ a, (![r, o] : Fin 2 → Nat) a + S1x16.size a ≤ S128x64.size a) (y : S1x16.Idx),
          (((Rect.unit (s := S128x64) ![r, o] S1x16.size ho).emb y) 0).val = r
            ∧ (((Rect.unit (s := S128x64) ![r, o] S1x16.size ho).emb y) 1).val = o + (y 1).val := by
        intro o ho y
        have hy : (y 0).val < 1 := (y 0).isLt
        exact ⟨(show r + 1 * (y 0).val = r by omega), (show o + 1 * (y 1).val = o + (y 1).val by omega)⟩
      rcases hp with rfl | rfl | rfl | rfl
      · exact (hD y _ (hq _ hd y).1 (hq _ hd y).2).trans (if_pos (hq _ hd y).1).symm
      · exact (hC y _ (hq _ hc y).1 (hq _ hc y).2).trans (if_pos (hq _ hc y).1).symm
      · exact (hB y _ (hq _ hb y).1 (hq _ hb y).2).trans (if_pos (hq _ hb y).1).symm
      · exact (hA y _ (hq _ ha y).1 (hq _ ha y).2).trans (if_pos (hq _ ha y).1).symm
    · have hin : ∀ (o : Nat) (ho : ∀ a, (![r, o] : Fin 2 → Nat) a + S1x16.size a ≤ S128x64.size a), o ≤ (x 1).val → (x 1).val < o + 16 →
          x ∈ (Rect.unit (s := S128x64) ![r, o] S1x16.size ho).set := by
        intro o ho h1 h2
        rw [← Rect.map_emb_univ]
        refine Finset.mem_map.mpr ⟨ix2 0 ⟨(x 1).val - o, by omega⟩, Finset.mem_univ _, ?_⟩
        funext a
        apply Fin.ext
        match a with
        | 0 => show r + 1 * 0 = (x 0).val; omega
        | 1 => show o + 1 * ((x 1).val - o) = (x 1).val; omega
      by_cases h16 : (x 1).val < 16
      · exact ⟨_, List.mem_cons_of_mem _ (List.mem_cons_of_mem _ (List.mem_cons_of_mem _ List.mem_cons_self)), hin 0 ha (by omega) (by omega)⟩
      by_cases h32 : (x 1).val < 32
      · exact ⟨_, List.mem_cons_of_mem _ (List.mem_cons_of_mem _ List.mem_cons_self), hin 16 hb (by omega) (by omega)⟩
      by_cases h48 : (x 1).val < 48
      · exact ⟨_, List.mem_cons_of_mem _ List.mem_cons_self, hin 32 hc (by omega) (by omega)⟩
      · exact ⟨_, List.mem_cons_self, hin 48 hd (by omega) (by omega)⟩
  · have hmiss : ∀ (o : Nat) (ho : ∀ a, (![r, o] : Fin 2 → Nat) a + S1x16.size a ≤ S128x64.size a),
        x ∉ (Rect.unit (s := S128x64) ![r, o] S1x16.size ho).set := fun o ho =>
      Rect.not_mem_set_of_axis _ x 0 r 1 rfl rfl rfl (by omega)
    rw [View.read_writes_apply_of_forall_not_mem]
    swap
    · intro p hp
      simp only [List.mem_cons, List.not_mem_nil, or_false] at hp
      rcases hp with rfl | rfl | rfl | rfl
      · exact hmiss 48 hd
      · exact hmiss 32 hc
      · exact hmiss 16 hb
      · exact hmiss 0 ha
    show (if (x 0).val < r then g x else h x) = if (x 0).val < r + 1 then g x else h x
    by_cases hlt : (x 0).val < r
    · rw [if_pos hlt, if_pos (by omega)]
    · rw [if_neg hlt, if_neg (by omega)]

variable (d : Dev nD) (L : grid0.Coords)

/-- The semaphore of the copy of row `j` of a group of sixteen. -/
abbrev rowSem (j : Fin 16) : DmaSem sig := ⟨15 + j.val, show 15 + j.val < 32 by omega⟩

/-- What the tile holds between two rows of a chunk, the chunk's rows being `ck`. -/
def rowT (O : CellTallies nD τ sig (HIx 1)) (W : Waits sig (HIx 1)) (q : PosShare TreeShare)
    (fe : Buf (Elt F) (eLoc d)) (fmk : Buf (Elt F) ((mkV).view.loc (VT d L))) (fix : Buf (Elt F) ((ixV).view.loc (VT d L)))
    (ck : Buf (Elt F) ((ckV).view.loc (VT d L))) : sProp (MM F) :=
  iprop(Transfers.MayWaits (VT d L) (default : HIx 1) O
    ∗ ((eV).view.loc (VT d L) ↦{q} fe)
    ∗ ((mkV).view.loc (VT d L) ↦[(mkV).view.set]{fullShare} fmk)
    ∗ ((ixV).view.loc (VT d L) ↦[(ixV).view.set]{fullShare} fix)
    ∗ ((ckV).view.loc (VT d L) ↦[(ckV).view.set]{fullShare} ck)
    ∗ (∃ g, (g8V).view.loc (VT d L) ↦[(g8V).view.set]{fullShare} g)
    ∗ bigSep Finset.univ (fun j : Fin 16 => semVal (VT d L, SemLoc.dma (rowSem j)) 0)
    ∗ ∃ W', ⌜∀ p ∈ W', p ∈ W ∨ p.2 = none⌝ ∗ owes (VT d L) O W')

/-- One row of the general path: from a chunk with `r` rows finished to one with `r + 1`. -/
theorem row_wp {α : Type} (O : CellTallies nD τ sig (HIx 1)) (W : Waits sig (HIx 1)) (q : PosShare TreeShare)
    (fe : Buf (Elt F) (eLoc d)) (fmk : Buf (Elt F) ((mkV).view.loc (VT d L))) (fix : Buf (Elt F) ((ixV).view.loc (VT d L)))
    (g h : S128x64.Idx → Elt F .f32) (r : Nat) (j : Fin 16) (v w : BitVec 32) (hw : w.toNat < 8192)
    (H : Prop) (h2 : H) (C : Prop) [Decidable C] (s : DmaSems sig S_)
    (oT oA oB oC oD : Fin 2 → Nat) (dec : Decidable (RowOk H C oT oA oB oC oD)) (oa ob oc od : Fin 2 → Nat)
    (ha : ∀ a, oa a + S1x16.size a ≤ S128x64.size a) (hb : ∀ a, ob a + S1x16.size a ≤ S128x64.size a)
    (hc : ∀ a, oc a + S1x16.size a ≤ S128x64.size a) (hd : ∀ a, od a + S1x16.size a ≤ S128x64.size a)
    (hC : C ↔ v = 0#32) (hs : s.sem = rowSem j)
    (hT : oT = ![8 * (w.toNat / 8), 0]) (hA : oA = ![w.toNat % 8, 0]) (hB : oB = ![w.toNat % 8, 16])
    (hCC : oC = ![w.toNat % 8, 32]) (hD : oD = ![w.toNat % 8, 48])
    (hoa : oa = ![r, 0]) (hob : ob = ![r, 16]) (hoc : oc = ![r, 32]) (hod : od = ![r, 48])
    (hg0 : v = 0#32 → ∀ x : S128x64.Idx, (x 0).val = r → g x = fe (ix2 ⟨w.toNat, hw⟩ (x 1)))
    (hg1 : v ≠ 0#32 → ∀ x : S128x64.Idx, (x 0).val = r → g x = h x)
    (k : Prog (TpuEff nD τ sig (Elt F) Λ₀ (.scVector (cV L) (jV L))) α) (Q : α → sProp (MM F))
    (hk : rowT (F := F) d L O W q fe fmk fix (ckR g h (r + 1)) ⊢ wp frame (wpE (defs₀ (F := F)) 𝒱₀ (VT d L) none) Set.univ k Q) :
    rowT (F := F) d L O W q fe fmk fix (ckR g h r)
      ⊢ wp frame (wpE (defs₀ (F := F)) 𝒱₀ (VT d L) none) Set.univ
          (rowStep (F := F) L H h2 C s oT oA oB oC oD dec oa ob oc od ha hb hc hd k) Q := by
  subst hT hA hB hCC hD hoa hob hoc hod
  have hok : RowOk H C ![8 * (w.toNat / 8), 0] ![w.toNat % 8, 0] ![w.toNat % 8, 16] ![w.toNat % 8, 32] ![w.toNat % 8, 48] := by
    have h8 : w.toNat % 8 < 8 := Nat.mod_lt _ (by decide)
    refine ⟨fun _ _ a => ?_, fun _ _ a => ?_, fun _ _ a => ?_, fun _ _ a => ?_, fun _ _ a => ?_⟩
    · match a with
      | 0 => show 8 * (w.toNat / 8) + 8 ≤ 8192; omega
      | 1 => show 0 + 64 ≤ 64; omega
    all_goals
      match a with
      | 0 => show w.toNat % 8 + 1 ≤ 8; omega
      | 1 => exact Nat.le_of_ble_eq_true rfl
  by_cases hc0 : C
  · unfold rowT
    rw [SparseCore.bigSep_erase' (Finset.mem_univ j), ← hs]
    iintro ⟨#Hmw, HE, HM, HI, HK, HG, Hs, HO⟩
    icases HG with ⟨%g0, HG⟩
    icases Hs with ⟨Hc, Hs⟩
    icases HO with ⟨%W', %hW', HO⟩
    unfold rowStep
    sl_exec
    have hv : v = 0#32 := hC.mp hc0
    have hval : ((ckV).view.writes (Elt F) (ckR g h r)
        [⟨Rect.unit (s := S128x64) ![r, 48] S1x16.size hd, pay16 (row_wp.sl.vD d fe w H h2 C hok hc0)⟩,
          ⟨Rect.unit (s := S128x64) ![r, 32] S1x16.size hc, pay16 (row_wp.sl.vC d fe w H h2 C hok hc0)⟩,
          ⟨Rect.unit (s := S128x64) ![r, 16] S1x16.size hb, pay16 (row_wp.sl.vB d fe w H h2 C hok hc0)⟩,
          ⟨Rect.unit (s := S128x64) ![r, 0] S1x16.size ha, pay16 (row_wp.sl.vA d fe w H h2 C hok hc0)⟩] :
        Buf (Elt F) ((ckV).view.loc (VT d L))) = ckR g h (r + 1) := ckR_writes (F := F) d g h r ha hb hc hd (pay16 (row_wp.sl.vA d fe w H h2 C hok hc0)) (pay16 (row_wp.sl.vB d fe w H h2 C hok hc0))
      (pay16 (row_wp.sl.vC d fe w H h2 C hok hc0)) (pay16 (row_wp.sl.vD d fe w H h2 C hok hc0))
      (fun y x h0 h1 => by
        rw [pay16_eq, hg0 hv x h0]
        exact grp_entry d fe _ w.toNat 0 hw _ _ y (x 1) h1)
      (fun y x h0 h1 => by
        rw [pay16_eq, hg0 hv x h0]
        exact grp_entry d fe _ w.toNat 16 hw _ _ y (x 1) h1)
      (fun y x h0 h1 => by
        rw [pay16_eq, hg0 hv x h0]
        exact grp_entry d fe _ w.toNat 32 hw _ _ y (x 1) h1)
      (fun y x h0 h1 => by
        rw [pay16_eq, hg0 hv x h0]
        exact grp_entry d fe _ w.toNat 48 hw _ _ y (x 1) h1)
    unfold rowT at hk
    rw [SparseCore.bigSep_erase' (Finset.mem_univ j), ← hs, ← hval] at hk
    iapply hk
    isplitr
    · iexact Hmw
    isplitl [HE]
    · iexact HE
    isplitl [HM]
    · iexact HM
    isplitl [HI]
    · iexact HI
    isplitl [HK]
    · iexact HK
    isplitl [HG]
    · iexists _
      iexact HG
    isplitl [Hc Hs]
    · isplitl [Hc]
      · iexact Hc
      · iexact Hs
    · iexists (insert (SemLoc.dma (SemArray.sem s), default) W')
      isplitr
      · ipureintro
        intro p hp
        rcases Finset.mem_insert.mp hp with rfl | hp
        · exact Or.inr rfl
        · exact hW' p hp
      · iexact HO
  · have hv : v ≠ 0#32 := fun e => hc0 (hC.mpr e)
    have hval : ckR g h (r + 1) = ckR g h r := by
      funext x
      show (if (x 0).val < r + 1 then g x else h x) = if (x 0).val < r then g x else h x
      by_cases hlt : (x 0).val < r
      · rw [if_pos hlt, if_pos (by omega)]
      · by_cases he : (x 0).val = r
        · rw [if_pos (by omega), if_neg hlt, hg1 hv x he]
        · rw [if_neg (by omega), if_neg hlt]
    unfold rowT
    iintro ⟨#Hmw, HE, HM, HI, HK, HG, Hs, HO⟩
    unfold rowStep
    sl_exec
    unfold rowT at hk
    rw [hval] at hk
    iapply hk
    isplitr
    · iexact Hmw
    isplitl [HE]
    · iexact HE
    isplitl [HM]
    · iexact HM
    isplitl [HI]
    · iexact HI
    isplitl [HK]
    · iexact HK
    isplitl [HG]
    · iexact HG
    isplitl [Hs]
    · iexact Hs
    · iexact HO

end Cert.Proof.Tiles

end
-- ==== Proof.Words.lean ====
/-
  The words of the general path: a row's test, the lanes of the vectors it reads its words from, and the closed forms
  of the offsets the kernel computes from an index and from the loop counters.
-/
module

public import proofs.«01_k».proof.Proof.Setup
public import Idealize.ShloMosaic.Lib.Pipeline.Value
import Idealize.ShloMosaic.Lib.Pointwise.ShapeOpsCore

@[expose] public section

namespace Cert.Proof.Tiles

open Cert.KernelIdeal Cert.KernelIdeal.Gen
open Idealize.ShloMosaic
open Idealize.ShloMosaic.ValueIdx (ix1 ix2)

/-- A row is stored over where its mask word is zero. -/
theorem cond_iff (v : BitVec 32) : k0_cond3 v = 1#1 ↔ v = 0#32 := by
  have h1 : ∀ b : Bool, (IntOp.cmpi .ne ((BitVec.ofBool b).setWidth 32) 0#32 = 1#1) ↔ b = true := by decide
  exact (h1 (v == 0#32)).trans beq_iff_eq

/-- The first row of the group of eight that holds row `w`, and the place of row `w` in it. -/
theorem group_table : ∀ n : Fin 8192, k0_off10 (BitVec.ofNat 32 n.val) 0 = 8 * (n.val / 8) ∧ k0_off11 (BitVec.ofNat 32 n.val) 0 = n.val % 8 := by
  decide +kernel

/-- The group of an index in range, as the copy's offsets name it. -/
theorem off_group (w : BitVec 32) (hw : w.toNat < 8192) : k0_off10 w = ![8 * (w.toNat / 8), 0] := by
  have h := (group_table ⟨w.toNat, hw⟩).1
  simp only [BitVec.ofNat_toNat, BitVec.setWidth_eq] at h
  funext a
  match a with
  | 0 => exact h
  | 1 => rfl

/-- The place of an index in range in its group. -/
theorem off_place (w : BitVec 32) (hw : w.toNat < 8192) : k0_off11 w 0 = w.toNat % 8 := by
  have h := (group_table ⟨w.toNat, hw⟩).2
  simpa only [BitVec.ofNat_toNat, BitVec.setWidth_eq] using h

/-- The four loads' offsets in the group. -/
theorem off_load (c : Nat) (w : BitVec 32) (hw : w.toNat < 8192) : (![k0_off11 w 0, c] : Fin 2 → Nat) = ![w.toNat % 8, c] := by
  rw [off_place w hw]

/-- Row `j` of group `t` of sixteen of a chunk and a column, as the kernel computes the stores' offsets. -/
abbrev offRow (t : Fin k0_t3_loop.trips) (j : Fin 16) (c : Nat) : Fin 2 → Nat :=
  ![(Scalar.indexCast (Scalar.addi (Scalar.muli (Scf.iv 0#32 1#32 t) 16#32) (BitVec.ofNat 32 j.val))).toNat, c]

/-- That offset in closed form. -/
theorem offRow_eq (t : Fin k0_t3_loop.trips) (j : Fin 16) (c : Nat) : offRow t j c = ![16 * t.val + j.val, c] := by
  have h : ∀ (t : Fin k0_t3_loop.trips) (j : Fin 16),
      (Scalar.indexCast (Scalar.addi (Scalar.muli (Scf.iv 0#32 1#32 t) 16#32) (BitVec.ofNat 32 j.val))).toNat = 16 * t.val + j.val := by
    decide +kernel
  rw [offRow, h]

/-- A lane of a vector of sixteen words, cut out as the body cuts it. -/
theorem lane (j : Fin 16) (u : S16.Idx → BitVec 32) (h : S16.ShapeCasts S16) (hs : S16.Slices ![j.val] S1) (hp : ∀ a, (![0] : Fin 1 → Nat) a < S1.size a) :
    extractAt ![0] (extractStridedSlice S1 ![j.val] (shapeCast S16 u h) hs) hp = u (ValueIdx.ix1 j) := by
  rw [extractAt_eq, shapeCast_self]
  refine extractStridedSlice_apply _ _ _ _ _ fun a => ?_
  match a with
  | 0 => show j.val = j.val + 0; rfl

end Cert.Proof.Tiles

end
-- ==== Proof.Chunk.lean ====
/-
  A chunk of the general path: sixteen rows at a time, each by the one lemma of a row.
-/
module

public import proofs.«01_k».proof.Proof.Row
public import proofs.«01_k».proof.Proof.Words

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

/-- What the rows of a group of sixteen, from row `r0` of the chunk on, must come to: `g` holds, at each of them, the
    table row of its index where its mask word is zero, and otherwise the chunk's own. -/
structure GroupSpec (fe : S8192x64.Idx → Elt F .f32) (g h : S128x64.Idx → Elt F .f32) (r0 : Nat) (ws is : S16.Idx → BitVec 32) : Prop where
  inr : ∀ j, (is (ix1 j)).toNat < 8192
  taken : ∀ j : Fin 16, ws (ix1 j) = 0#32 → ∀ x : S128x64.Idx, (x 0).val = r0 + j.val → g x = fe (ix2 ⟨(is (ix1 j)).toNat, inr j⟩ (x 1))
  kept : ∀ j : Fin 16, ws (ix1 j) ≠ 0#32 → ∀ x : S128x64.Idx, (x 0).val = r0 + j.val → g x = h x

variable (d : Dev nD) (L : grid0.Coords)

/-- A program that returns at once meets what holds of its value. -/
theorem wp_pure_of {α : Type} {P : sProp (MM F)} {a : α} {Q : α → sProp (MM F)} (h : P ⊢ Q a) :
    P ⊢ wp frame (wpE (defs₀ (F := F)) 𝒱₀ (VT d L) none) Set.univ
      (Pure.pure a : Prog (TpuEff nD τ sig (Elt F) Λ₀ (.scVector (cV L) (jV L))) α) Q := by
  rw [wp_pure]
  iintro H
  imodintro
  iapply h
  iexact H

/-- Row `j` of a group of sixteen, its words those lanes `j` hold. -/
theorem group_row {α : Type} {O : CellTallies nD τ sig (HIx 1)} {W : Waits sig (HIx 1)} {q : PosShare TreeShare}
    {fe : Buf (Elt F) (eLoc d)} {fmk : Buf (Elt F) ((mkV).view.loc (VT d L))} {fix : Buf (Elt F) ((ixV).view.loc (VT d L))}
    {g h : S128x64.Idx → Elt F .f32} {t : Fin k0_t3_loop.trips} {ws is : S16.Idx → BitVec 32}
    (G : GroupSpec (F := F) fe g h (16 * t.val) ws is) (j : Fin 16) (s : DmaSems sig S_) (hs : s.sem = rowSem j)
    {v w : BitVec 32} (hv : v = ws (ix1 j)) (hw : w = is (ix1 j)) {H : Prop} (h2 : H)
    {dec : Decidable (RowOk H (k0_cond3 v = 1#1) (k0_off10 w) ![k0_off11 w 0, 0] ![k0_off11 w 0, 16] ![k0_off11 w 0, 32] ![k0_off11 w 0, 48])}
    {ha : ∀ a, offRow t j 0 a + S1x16.size a ≤ S128x64.size a} {hb : ∀ a, offRow t j 16 a + S1x16.size a ≤ S128x64.size a}
    {hc : ∀ a, offRow t j 32 a + S1x16.size a ≤ S128x64.size a} {hd : ∀ a, offRow t j 48 a + S1x16.size a ≤ S128x64.size a}
    {k : Prog (TpuEff nD τ sig (Elt F) Λ₀ (.scVector (cV L) (jV L))) α} {Q : α → sProp (MM F)}
    (hk : rowT (F := F) d L O W q fe fmk fix (ckR g h (16 * t.val + (j.val + 1))) ⊢ wp frame (wpE (defs₀ (F := F)) 𝒱₀ (VT d L) none) Set.univ k Q) :
    rowT (F := F) d L O W q fe fmk fix (ckR g h (16 * t.val + j.val))
      ⊢ wp frame (wpE (defs₀ (F := F)) 𝒱₀ (VT d L) none) Set.univ
          (rowStep (F := F) L H h2 (k0_cond3 v = 1#1) s (k0_off10 w) ![k0_off11 w 0, 0] ![k0_off11 w 0, 16] ![k0_off11 w 0, 32] ![k0_off11 w 0, 48]
            dec (offRow t j 0) (offRow t j 16) (offRow t j 32) (offRow t j 48) ha hb hc hd k) Q := by
  subst hv hw
  exact row_wp d L O W q fe fmk fix g h (16 * t.val + j.val) j _ _ (G.inr j) H h2 _ s _ _ _ _ _ dec _ _ _ _ ha hb hc hd (cond_iff _) hs
    (off_group _ (G.inr j)) (off_load 0 _ (G.inr j)) (off_load 16 _ (G.inr j)) (off_load 32 _ (G.inr j)) (off_load 48 _ (G.inr j))
    (offRow_eq t j 0) (offRow_eq t j 16) (offRow_eq t j 32) (offRow_eq t j 48) (G.taken j) (G.kept j) k Q hk

variable (v25 v27 v30 v33 v36 v39 v42 v45 v48 v51 v54 v57 v60 v63 v66 v69 : BitVec 32)
  (h2 : k0_cond2 v25 v27 v30 v33 v36 v39 v42 v45 v48 v51 v54 v57 v60 v63 v66 v69 = 1#1)

/-- Trip `t` of the loop over a chunk's groups of sixteen rows. -/
abbrev groupBody (t2 : Fin k0_t2_loop.trips) (t : Fin k0_t3_loop.trips) (a29 a32 : BitVec 32) :=
  k0_t3_body (F := F) L sV (Memref.isWhole_whole _) mV (Memref.isWhole_whole _) eV (Memref.isWhole_whole _) nV (Memref.isWhole_whole _)
    oV (Memref.isWhole_whole _) mkV (Memref.isWhole_whole _) ckV (Memref.isWhole_whole _) g8V (Memref.isWhole_whole _)
    ixV (Memref.isWhole_whole _) r0V (Memref.isWhole_whole _) r1V (Memref.isWhole_whole _) r2V (Memref.isWhole_whole _)
    r3V (Memref.isWhole_whole _) r4V (Memref.isWhole_whole _) r5V (Memref.isWhole_whole _)
    cc0_scratch10 cc0_scratch11 cc0_scratch12 cc0_scratch13 cc0_scratch14 cc0_scratch15 cc0_scratch16 cc0_scratch17
    cc0_scratch18 cc0_scratch19 cc0_scratch20 cc0_scratch21
    cc0_scoped0 cc0_scoped1 cc0_scoped2 cc0_scoped3 cc0_scoped4 cc0_scoped5 cc0_scoped6 cc0_scoped7 cc0_scoped8 cc0_scoped9
    cc0_scoped10 cc0_scoped11 cc0_scoped12 cc0_scoped13 cc0_scoped14 cc0_scoped15 cc0_scoped16 cc0_scoped17 cc0_scoped18 cc0_scoped19
    v25 v27 v30 v33 v36 v39 v42 v45 v48 v51 v54 v57 v60 v63 v66 v69 h2 t2 a29 t a32

/-- The sixteen mask words of a group, as its load reads them. -/
abbrev groupW (t2 : Fin k0_t2_loop.trips) (t : Fin k0_t3_loop.trips) (fmk : S4096.Idx → BitVec 32) : S16.Idx → BitVec 32 :=
  View.readAt (Elt F) mkV.view (Rect.unit (s := S4096) (k0_off8 t2 t) S16.size (k0_off8_inb t2 t)).toLoadRect fmk

/-- The sixteen indices of a group, as its load reads them. -/
abbrev groupI (t : Fin k0_t3_loop.trips) (fix : S128.Idx → BitVec 32) : S16.Idx → BitVec 32 :=
  View.readAt (Elt F) ixV.view (Rect.unit (s := S128) (k0_off9 t) S16.size (k0_off9_inb t)).toLoadRect fix

/-- The two loads a group begins with. -/
theorem loads_wp {α : Type} {O : CellTallies nD τ sig (HIx 1)} {W : Waits sig (HIx 1)} {q : PosShare TreeShare}
    {fe : Buf (Elt F) (eLoc d)} {fmk : Buf (Elt F) ((mkV).view.loc (VT d L))} {fix : Buf (Elt F) ((ixV).view.loc (VT d L))}
    {ck : Buf (Elt F) ((ckV).view.loc (VT d L))} {o8 o9 : Fin 1 → Nat}
    {i8 : ∀ a, o8 a + S16.size a ≤ S4096.size a} {i9 : ∀ a, o9 a + S16.size a ≤ S128.size a}
    {k : Vec F S16 .i32 → Vec F S16 .i32 → Prog (TpuEff nD τ sig (Elt F) Λ₀ (.scVector (cV L) (jV L))) α} {Q : α → sProp (MM F)}
    (hk : rowT (F := F) d L O W q fe fmk fix ck ⊢ wp frame (wpE (defs₀ (F := F)) 𝒱₀ (VT d L) none) Set.univ
      (k (View.readAt (Elt F) mkV.view (Rect.unit (s := S4096) o8 S16.size i8).toLoadRect fmk)
        (View.readAt (Elt F) ixV.view (Rect.unit (s := S128) o9 S16.size i9).toLoadRect fix)) Q) :
    rowT (F := F) d L O W q fe fmk fix ck ⊢ wp frame (wpE (defs₀ (F := F)) 𝒱₀ (VT d L) none) Set.univ
      (Prog.lift (.load mkV (Rect.unit (s := S4096) o8 S16.size i8).toLoadRect (View.loadsAt_vmem h_S16)) >>= fun v99 =>
        Prog.lift (.load ixV (Rect.unit (s := S128) o9 S16.size i9).toLoadRect (View.loadsAt_vmem h_S16)) >>= fun v103 => k v99 v103) Q := by
  unfold rowT at hk ⊢
  iintro ⟨#Hmw, HE, HM, HI, HK, HG, Hs, HO⟩
  sl_exec
  iapply hk
  isplitr
  · iexact Hmw
  isplitl [HE]
  · iexact HE
  isplitl [HM]
  · iexact HM
  isplitl [HI]
  · iexact HI
  isplitl [HK]
  · iexact HK
  isplitl [HG]
  · iexact HG
  isplitl [Hs]
  · iexact Hs
  · iexact HO

/-- One group of sixteen rows. -/
theorem group_wp (O : CellTallies nD τ sig (HIx 1)) (W : Waits sig (HIx 1)) (q : PosShare TreeShare)
    (fe : Buf (Elt F) (eLoc d)) (fmk : Buf (Elt F) ((mkV).view.loc (VT d L))) (fix : Buf (Elt F) ((ixV).view.loc (VT d L)))
    (g h : S128x64.Idx → Elt F .f32) (t2 : Fin k0_t2_loop.trips) (t : Fin k0_t3_loop.trips) (a29 a32 : BitVec 32)
    (G : GroupSpec (F := F) fe g h (16 * t.val) (groupW (F := F) t2 t fmk) (groupI (F := F) t fix)) :
    rowT (F := F) d L O W q fe fmk fix (ckR g h (16 * t.val))
      ⊢ wp frame (wpE (defs₀ (F := F)) 𝒱₀ (VT d L) none) Set.univ
          (groupBody (F := F) L v25 v27 v30 v33 v36 v39 v42 v45 v48 v51 v54 v57 v60 v63 v66 v69 h2 t2 t a29 a32)
          (fun _ => rowT (F := F) d L O W q fe fmk fix (ckR g h (16 * t.val + 16))) := by
  unfold groupBody k0_t3_body
  rw [wp_bind, k0_part29_eq_skeleton]
  unfold k0_part29_skel
  refine loads_wp d L ?_
  refine group_row d L G 0 cc0_scoped3 rfl (lane 0 _ _ slices_S16_o0_S1 _) (lane 0 _ _ slices_S16_o0_S1 _) h2 ?_
  refine group_row d L G 1 cc0_scoped4 rfl (lane 1 _ _ slices_S16_o1_S1 _) (lane 1 _ _ slices_S16_o1_S1 _) h2 ?_
  refine group_row d L G 2 cc0_scoped5 rfl (lane 2 _ _ slices_S16_o2_S1 _) (lane 2 _ _ slices_S16_o2_S1 _) h2 ?_
  refine wp_pure_of d L ?_
  rw [wp_bind, k0_part30_eq_skeleton]
  unfold k0_part30_skel
  refine group_row d L G 3 cc0_scoped6 rfl (lane 3 _ _ slices_S16_o3_S1 _) (lane 3 _ _ slices_S16_o3_S1 _) h2 ?_
  refine group_row d L G 4 cc0_scoped7 rfl (lane 4 _ _ slices_S16_o4_S1 _) (lane 4 _ _ slices_S16_o4_S1 _) h2 ?_
  refine group_row d L G 5 cc0_scoped8 rfl (lane 5 _ _ slices_S16_o5_S1 _) (lane 5 _ _ slices_S16_o5_S1 _) h2 ?_
  refine group_row d L G 6 cc0_scoped9 rfl (lane 6 _ _ slices_S16_o6_S1 _) (lane 6 _ _ slices_S16_o6_S1 _) h2 ?_
  refine wp_pure_of d L ?_
  rw [wp_bind, k0_part31_eq_skeleton]
  unfold k0_part31_skel
  refine group_row d L G 7 cc0_scoped10 rfl (lane 7 _ _ slices_S16_o7_S1 _) (lane 7 _ _ slices_S16_o7_S1 _) h2 ?_
  refine group_row d L G 8 cc0_scoped11 rfl (lane 8 _ _ slices_S16_o8_S1 _) (lane 8 _ _ slices_S16_o8_S1 _) h2 ?_
  refine group_row d L G 9 cc0_scoped12 rfl (lane 9 _ _ slices_S16_o9_S1 _) (lane 9 _ _ slices_S16_o9_S1 _) h2 ?_
  refine group_row d L G 10 cc0_scoped13 rfl (lane 10 _ _ slices_S16_o10_S1 _) (lane 10 _ _ slices_S16_o10_S1 _) h2 ?_
  refine wp_pure_of d L ?_
  rw [wp_bind, k0_part32_eq_skeleton]
  unfold k0_part32_skel
  refine group_row d L G 11 cc0_scoped14 rfl (lane 11 _ _ slices_S16_o11_S1 _) (lane 11 _ _ slices_S16_o11_S1 _) h2 ?_
  refine group_row d L G 12 cc0_scoped15 rfl (lane 12 _ _ slices_S16_o12_S1 _) (lane 12 _ _ slices_S16_o12_S1 _) h2 ?_
  refine group_row d L G 13 cc0_scoped16 rfl (lane 13 _ _ slices_S16_o13_S1 _) (lane 13 _ _ slices_S16_o13_S1 _) h2 ?_
  refine group_row d L G 14 cc0_scoped17 rfl (lane 14 _ _ slices_S16_o14_S1 _) (lane 14 _ _ slices_S16_o14_S1 _) h2 ?_
  refine wp_pure_of d L ?_
  refine group_row d L G 15 cc0_scoped18 rfl (lane 15 _ _ slices_S16_o15_S1 _) (lane 15 _ _ slices_S16_o15_S1 _) h2 ?_
  refine wp_pure_of d L ?_
  exact BIBase.Entails.refl

end Cert.Proof.Tiles

end
-- ==== Proof.Count.lean ====
/-
  How many of a tile's mask words are one: sixteen running sums, added up, come to 4096 only if every word is one. The
  tile then copies its rows as they are.
-/
module

public import proofs.«01_k».proof.Proof.General

@[expose] public section

noncomputable section

namespace Cert.Proof.Tiles

open Cert.KernelIdeal Cert.KernelIdeal.Gen

open Idealize.ShloMosaic
open Idealize.ShloMosaic.ValueIdx (ix1 ix2)

variable {F : FTy → Type} [FloatOps F]

/-- A lane's running sum over words that are zero or one: at most the number of words, and that number only if all are one. -/
theorem accF_le (g : S4096.Idx → BitVec 32) (hg : ∀ i, g i = 0#32 ∨ g i = 1#32) (x : S16.Idx) : ∀ k : Nat, k ≤ 256 →
    (accF g k x).toNat ≤ k ∧ ((accF g k x).toNat = k → ∀ i < k, g (ix1 ⟨(16 * i + (x 0).val) % 4096, Nat.mod_lt _ (by decide)⟩) = 1#32)
  | 0, _ => ⟨Nat.le_refl _, fun _ i hi => absurd hi (Nat.not_lt_zero _)⟩
  | k + 1, hk => by
    obtain ⟨h1, h2⟩ := accF_le g hg x k (by omega)
    have hs : (accF g (k + 1) x).toNat = ((accF g k x).toNat + (g (ix1 ⟨(16 * k + (x 0).val) % 4096, Nat.mod_lt _ (by decide)⟩)).toNat) % 4294967296 :=
      BitVec.toNat_add _ _
    rcases hg (ix1 ⟨(16 * k + (x 0).val) % 4096, Nat.mod_lt _ (by decide)⟩) with h | h
    · rw [h] at hs
      have h0 : (0#32 : BitVec 32).toNat = 0 := rfl
      rw [h0] at hs
      exact ⟨by omega, fun he => absurd he (by omega)⟩
    · have h0 : (1#32 : BitVec 32).toNat = 1 := rfl
      rw [h, h0] at hs
      refine ⟨by omega, fun he i hi => ?_⟩
      rcases Nat.lt_succ_iff_lt_or_eq.mp hi with hi | rfl
      · exact h2 (by omega) i hi
      · exact h

/-- The sixteen lanes added up, in the kernel's order. -/
def total (v : IVec S16 32) : BitVec 32 :=
  v (ix1 0) + v (ix1 1) + v (ix1 2) + v (ix1 3) + v (ix1 4) + v (ix1 5) + v (ix1 6) + v (ix1 7)
    + v (ix1 8) + v (ix1 9) + v (ix1 10) + v (ix1 11) + v (ix1 12) + v (ix1 13) + v (ix1 14) + v (ix1 15)

/-- A lane, taken out of the vector. -/
theorem lane_out (v : IVec S16 32) (n : Nat) (hn : n < 16) (h : S16.Slices ![n] S1) (h') :
    extractAt ![0] (extractStridedSlice S1 ![n] v h) h' = v (ix1 ⟨n, hn⟩) := by
  show v _ = v _
  congr 1
  funext a
  match a with
  | 0 => apply Fin.ext; show n + 0 = n; omega

/-- The lanes as the kernel takes them out. -/
theorem lanes_out (v : IVec S16 32) :
    extractAt ![0] (k0_pay101 v) inpos_S1_p0 = v (ix1 0) ∧
    extractAt ![0] (k0_pay102 v) inpos_S1_p0 = v (ix1 1) ∧
    extractAt ![0] (k0_pay103 v) inpos_S1_p0 = v (ix1 2) ∧
    extractAt ![0] (k0_pay104 v) inpos_S1_p0 = v (ix1 3) ∧
    extractAt ![0] (k0_pay105 v) inpos_S1_p0 = v (ix1 4) ∧
    extractAt ![0] (k0_pay106 v) inpos_S1_p0 = v (ix1 5) ∧
    extractAt ![0] (k0_pay107 v) inpos_S1_p0 = v (ix1 6) ∧
    extractAt ![0] (k0_pay108 v) inpos_S1_p0 = v (ix1 7) ∧
    extractAt ![0] (k0_pay109 v) inpos_S1_p0 = v (ix1 8) ∧
    extractAt ![0] (k0_pay110 v) inpos_S1_p0 = v (ix1 9) ∧
    extractAt ![0] (k0_pay111 v) inpos_S1_p0 = v (ix1 10) ∧
    extractAt ![0] (k0_pay112 v) inpos_S1_p0 = v (ix1 11) ∧
    extractAt ![0] (k0_pay113 v) inpos_S1_p0 = v (ix1 12) ∧
    extractAt ![0] (k0_pay114 v) inpos_S1_p0 = v (ix1 13) ∧
    extractAt ![0] (k0_pay115 v) inpos_S1_p0 = v (ix1 14) ∧
    extractAt ![0] (k0_pay116 v) inpos_S1_p0 = v (ix1 15) :=
  ⟨lane_out v 0 (by decide) slices_S16_o0_S1 _, lane_out v 1 (by decide) slices_S16_o1_S1 _, lane_out v 2 (by decide) slices_S16_o2_S1 _, lane_out v 3 (by decide) slices_S16_o3_S1 _, lane_out v 4 (by decide) slices_S16_o4_S1 _, lane_out v 5 (by decide) slices_S16_o5_S1 _, lane_out v 6 (by decide) slices_S16_o6_S1 _, lane_out v 7 (by decide) slices_S16_o7_S1 _, lane_out v 8 (by decide) slices_S16_o8_S1 _, lane_out v 9 (by decide) slices_S16_o9_S1 _, lane_out v 10 (by decide) slices_S16_o10_S1 _, lane_out v 11 (by decide) slices_S16_o11_S1 _, lane_out v 12 (by decide) slices_S16_o12_S1 _, lane_out v 13 (by decide) slices_S16_o13_S1 _, lane_out v 14 (by decide) slices_S16_o14_S1 _, lane_out v 15 (by decide) slices_S16_o15_S1 _⟩

/-- Sixteen lanes of at most 256 each come to 4096 only if each is 256. -/
theorem lanes_of_total (v : IVec S16 32) (hle : ∀ j : Fin 16, (v (ix1 j)).toNat ≤ 256) (ht : total v = 4096#32) :
    ∀ j : Fin 16, (v (ix1 j)).toNat = 256 := by
  have h := congrArg BitVec.toNat ht
  simp only [total, BitVec.toNat_add, BitVec.toNat_ofNat, Nat.mod_add_mod] at h
  have h0 := hle 0; have h1 := hle 1; have h2 := hle 2; have h3 := hle 3
  have h4 := hle 4; have h5 := hle 5; have h6 := hle 6; have h7 := hle 7
  have h8 := hle 8; have h9 := hle 9; have h10 := hle 10; have h11 := hle 11
  have h12 := hle 12; have h13 := hle 13; have h14 := hle 14; have h15 := hle 15
  intro j
  fin_cases j <;> simp only [Fin.zero_eta, Fin.mk_one, Fin.reduceFinMk] <;> omega

/-- A tile whose words add up to 4096 has ones only. -/
theorem ones_of_total (L : grid0.Coords) (fm : S131072.Idx → BitVec 32) (hm : ∀ i, fm i = 0#32 ∨ fm i = 1#32)
    (ht : total (accF (maskG L fm) 256) = 4096#32) (r : Nat) (hr : r < 4096) : maskG L fm (ix1 ⟨r, hr⟩) = 1#32 := by
  have hg : ∀ i, maskG L fm i = 0#32 ∨ maskG L fm i = 1#32 := fun i => hm _
  have h := lanes_of_total _ (fun j => (accF_le (maskG L fm) hg (ix1 j) 256 (Nat.le_refl _)).1) ht ⟨r % 16, Nat.mod_lt _ (by decide)⟩
  have h' := (accF_le (maskG L fm) hg (ix1 ⟨r % 16, Nat.mod_lt _ (by decide)⟩) 256 (Nat.le_refl _)).2 h (r / 16) (by omega)
  rw [← h']
  congr 2
  apply Fin.ext
  show r = (16 * (r / 16) + r % 16) % 4096
  omega

/-- Every chunk of such a tile goes out as it came in. -/
theorem chunk_of_total (L : grid0.Coords) (fs : S131072x64.Idx → Elt F .f32) (fm : S131072.Idx → BitVec 32) (fe : S8192x64.Idx → Elt F .f32)
    (fn : S131072.Idx → BitVec 32) (hm : ∀ i, fm i = 0#32 ∨ fm i = 1#32)
    (ht : total (accF (maskG L fm) 256) = 4096#32) (t : Nat) (h32 : t < 32) : chunkOf (F := F) L t fs = chunkOf L t (outG fs fm fe fn) := by
  funext x
  have hx : (x 0).val < 128 := (x 0).isLt
  have h := ones_of_total L fm hm ht (128 * t + (x 0).val) (by omega)
  have h1 : fm (ix1 (rowOf L t (x 0).val)) = 1#32 := by
    rw [← h]
    show fm _ = fm _
    congr 2
    apply Fin.ext
    show (row0 L + 128 * t + (x 0).val) % 131072 = (row0 L + (128 * t + (x 0).val)) % 131072
    rw [Nat.add_assoc]
  refine (if_neg ?_).symm
  show ¬ fm (ix1 (rowOf L t (x 0).val)) = 0#32
  rw [h1]
  decide

/-! ## The kernel's two tests of the sum -/

variable (b0 b1 b2 b3 b4 b5 b6 b7 b8 b9 b10 b11 b12 b13 b14 b15 : BitVec 32)

/-- The test of the first conditional. -/
theorem all_iff (s : BitVec 32) : Scalar.cmpi .ne (Scalar.extui (Scalar.cmpi .eq s 4096#32) : BitVec 32) 0#32 = 1#1 ↔ s = 4096#32 := by
  have h1 : ∀ b : Bool, (IntOp.cmpi .ne ((BitVec.ofBool b).setWidth 32) 0#32 = 1#1) ↔ b = true := by decide
  exact (h1 (s == 4096#32)).trans beq_iff_eq

/-- The test of the second: the first one's negation. -/
theorem rest_iff : k0_cond2 b0 b1 b2 b3 b4 b5 b6 b7 b8 b9 b10 b11 b12 b13 b14 b15 = 1#1
    ↔ ¬ b0 + b1 + b2 + b3 + b4 + b5 + b6 + b7 + b8 + b9 + b10 + b11 + b12 + b13 + b14 + b15 = 4096#32 := by
  have h1 : ∀ b : Bool, (IntOp.cmpi .ne ((BitVec.ofBool b ^^^ 1#1).setWidth 32) 0#32 = 1#1) ↔ ¬ b = true := by decide
  exact (h1 (b0 + b1 + b2 + b3 + b4 + b5 + b6 + b7 + b8 + b9 + b10 + b11 + b12 + b13 + b14 + b15 == 4096#32)).trans (not_congr beq_iff_eq)

/-- One more group of sixteen words. -/
theorem acc_step (d : Dev nD) (L : grid0.Coords) (g : Buf (Elt F) ((mkV : Memref sig .scVector .vmem S4096 .i32).view.loc (VT d L))) (k : Fin k0_t1_loop.trips) (acc : IVec S16 32)
    (hacc : acc = accF g k.val) :
    k0_pay100 (F := F) acc (View.readAt (Elt F) mkV.view (Rect.unit (s := S4096) (k0_off3 k) S16.size (k0_off3_inb k)).toLoadRect g) = accF g (k.val + 1) := by
  subst hacc
  have hk : k.val < 256 := lt_of_lt_of_eq k.isLt (by decide)
  funext x
  have hx : (x 0).val < 16 := (x 0).isLt
  have h : k0_pay100 (F := F) (accF g k.val) (View.readAt (Elt F) mkV.view (Rect.unit (s := S4096) (k0_off3 k) S16.size (k0_off3_inb k)).toLoadRect g) x
      = accF g k.val x + shapeCast S16 (View.readAt (Elt F) mkV.view (Rect.unit (s := S4096) (k0_off3 k) S16.size (k0_off3_inb k)).toLoadRect g : Vec F S16 .i32) shapeCasts_S16_S16 x := rfl
  refine (h.trans (congrArg (accF g k.val x + ·) (congrFun (shapeCast_self _ _) x))).trans ?_
  show accF g k.val x + g _ = accF g k.val x + g _
  congr 2
  funext a
  apply Fin.ext
  match a with
  | 0 =>
    show k0_off3 k 0 + 1 * (x 0).val = (16 * k.val + (x 0).val) % 4096
    rw [k0_off3_eq]
    show 16 * k.val + 1 * (x 0).val = _
    omega

end Cert.Proof.Tiles

end
-- ==== Proof.Tile.lean ====
/-
  A tile's body run whole: the ring's first six copies, the mask's words and their sum, then either the ring's
  thirty-two copies through or the general path's loop over the chunks.
-/
module

public import proofs.«01_k».proof.Proof.Count

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F] (d : Dev nD) (L : grid0.Coords)

/-! ## What a tile holds -/

/-- The 128 rows of the result from row `w` of the tile's own. -/
def oPc (w : BitVec 32) (h : ∀ a, k0_off4 L w a + S128x64.size a ≤ S131072x64.size a) (f : Buf (Elt F) (oLoc d)) : sProp (MM F) :=
  (oV.slice (Rect.unit (s := S131072x64) (k0_off4 L w) S128x64.size h) (fun _ => rfl)).view.loc (VT d L)
    ↦[(oV.slice (Rect.unit (s := S131072x64) (k0_off4 L w) S128x64.size h) (fun _ => rfl)).view.set]{fullShare} f

/-- The tile's thirty-two chunks of the result. -/
def outs (f : Buf (Elt F) (oLoc d)) : sProp (MM F) :=
  iprop(oPc d L 0#32 (k0_off4_inb L 0) f ∗
    oPc d L 128#32 (k0_off4_inb L 1) f ∗
    oPc d L 256#32 (k0_off4_inb L 2) f ∗
    oPc d L 384#32 (k0_off4_inb L 3) f ∗
    oPc d L 512#32 (k0_off4_inb L 4) f ∗
    oPc d L 640#32 (k0_off4_inb L 5) f ∗
    oPc d L 768#32 (k0_off4_inb L 6) f ∗
    oPc d L 896#32 (k0_off4_inb L 7) f ∗
    oPc d L 1024#32 (k0_off4_inb L 8) f ∗
    oPc d L 1152#32 (k0_off4_inb L 9) f ∗
    oPc d L 1280#32 (k0_off4_inb L 10) f ∗
    oPc d L 1408#32 (k0_off4_inb L 11) f ∗
    oPc d L 1536#32 (k0_off4_inb L 12) f ∗
    oPc d L 1664#32 (k0_off4_inb L 13) f ∗
    oPc d L 1792#32 (k0_off4_inb L 14) f ∗
    oPc d L 1920#32 (k0_off4_inb L 15) f ∗
    oPc d L 2048#32 (k0_off4_inb L 16) f ∗
    oPc d L 2176#32 (k0_off4_inb L 17) f ∗
    oPc d L 2304#32 (k0_off4_inb L 18) f ∗
    oPc d L 2432#32 (k0_off4_inb L 19) f ∗
    oPc d L 2560#32 (k0_off4_inb L 20) f ∗
    oPc d L 2688#32 (k0_off4_inb L 21) f ∗
    oPc d L 2816#32 (k0_off4_inb L 22) f ∗
    oPc d L 2944#32 (k0_off4_inb L 23) f ∗
    oPc d L 3072#32 (k0_off4_inb L 24) f ∗
    oPc d L 3200#32 (k0_off4_inb L 25) f ∗
    oPc d L 3328#32 (k0_off4_inb L 26) f ∗
    oPc d L 3456#32 (k0_off4_inb L 27) f ∗
    oPc d L 3584#32 (k0_off4_inb L 28) f ∗
    oPc d L 3712#32 (k0_off4_inb L 29) f ∗
    oPc d L 3840#32 (k0_off4_inb L 30) f ∗
    oPc d L 3968#32 (k0_off4_inb L 31) f)

/-- Six read shares of `sampled`, one for each copy that the ring has in flight. -/
def toks (q : PosShare TreeShare) (fs : Buf (Elt F) (sLoc d)) : sProp (MM F) :=
  iprop(((sV).view.loc (VT d L) ↦{Transfers.shareTokN q 0} fs) ∗ ((sV).view.loc (VT d L) ↦{Transfers.shareTokN q 1} fs) ∗ ((sV).view.loc (VT d L) ↦{Transfers.shareTokN q 2} fs) ∗ ((sV).view.loc (VT d L) ↦{Transfers.shareTokN q 3} fs) ∗ ((sV).view.loc (VT d L) ↦{Transfers.shareTokN q 4} fs) ∗ ((sV).view.loc (VT d L) ↦{Transfers.shareTokN q 5} fs))

/-- The tile's scratch buffers, at any contents. -/
def scr : sProp (MM F) :=
  iprop((∃ g, (mkV).view.loc (VT d L) ↦[(mkV).view.set]{fullShare} g) ∗
    (∃ g, (ckV).view.loc (VT d L) ↦[(ckV).view.set]{fullShare} g) ∗
    (∃ g, (g8V).view.loc (VT d L) ↦[(g8V).view.set]{fullShare} g) ∗
    (∃ g, (ixV).view.loc (VT d L) ↦[(ixV).view.set]{fullShare} g) ∗
    (∃ g, (r0V).view.loc (VT d L) ↦[(r0V).view.set]{fullShare} g) ∗
    (∃ g, (r1V).view.loc (VT d L) ↦[(r1V).view.set]{fullShare} g) ∗
    (∃ g, (r2V).view.loc (VT d L) ↦[(r2V).view.set]{fullShare} g) ∗
    (∃ g, (r3V).view.loc (VT d L) ↦[(r3V).view.set]{fullShare} g) ∗
    (∃ g, (r4V).view.loc (VT d L) ↦[(r4V).view.set]{fullShare} g) ∗
    (∃ g, (r5V).view.loc (VT d L) ↦[(r5V).view.set]{fullShare} g))

/-- The tile's semaphores, at zero. -/
def cells0 : sProp (MM F) :=
  iprop(semVal (VT d L, SemLoc.dma (cc0_scratch10).sem) 0 ∗
    semVal (VT d L, SemLoc.dma (cc0_scratch11).sem) 0 ∗
    semVal (VT d L, SemLoc.dma (cc0_scratch12).sem) 0 ∗
    semVal (VT d L, SemLoc.dma (cc0_scratch13).sem) 0 ∗
    semVal (VT d L, SemLoc.dma (cc0_scratch14).sem) 0 ∗
    semVal (VT d L, SemLoc.dma (cc0_scratch15).sem) 0 ∗
    semVal (VT d L, SemLoc.dma (cc0_scratch16).sem) 0 ∗
    semVal (VT d L, SemLoc.dma (cc0_scratch17).sem) 0 ∗
    semVal (VT d L, SemLoc.dma (cc0_scratch18).sem) 0 ∗
    semVal (VT d L, SemLoc.dma (cc0_scratch19).sem) 0 ∗
    semVal (VT d L, SemLoc.dma (cc0_scratch20).sem) 0 ∗
    semVal (VT d L, SemLoc.dma (cc0_scratch21).sem) 0 ∗
    semVal (VT d L, SemLoc.dma (cc0_scoped0).sem) 0 ∗
    semVal (VT d L, SemLoc.dma (cc0_scoped1).sem) 0 ∗
    semVal (VT d L, SemLoc.dma (cc0_scoped2).sem) 0 ∗
    (bigSep Finset.univ fun j : Fin 16 => semVal (VT d L, SemLoc.dma (rowSem j)) 0) ∗
    semVal (VT d L, SemLoc.dma (cc0_scoped19).sem) 0)

/-- All that the tile holds, the result's rows at `f`. -/
def tileT (q : PosShare TreeShare) (fs : Buf (Elt F) (sLoc d)) (fm : Buf (Elt F) (mLoc d)) (fe : Buf (Elt F) (eLoc d)) (fn : Buf (Elt F) (nLoc d))
    (f : Buf (Elt F) (oLoc d)) : sProp (MM F) :=
  iprop(toks d L q fs ∗ ((mV).view.loc (VT d L) ↦{q} fm) ∗ ((eV).view.loc (VT d L) ↦{q} fe) ∗ ((nV).view.loc (VT d L) ↦{q} fn)
    ∗ outs d L f ∗ scr d L ∗ cells0 d L)

/-- A copy into the whole of the mask's scratch buffer leaves what it carries. -/
theorem mask_whole (g0 : Buf (Elt F) ((mkV).view.loc (VT d L))) (p : S4096.Idx → BitVec 32) :
    ((mkV).view.writes (Elt F) g0 [⟨Rect.whole S4096, p⟩] : Buf (Elt F) ((mkV).view.loc (VT d L))) = p := by
  have h := View.read_writes_whole (Val := Elt F) (View.whole (cc0_scratch0 : Ref sig .scVector)) g0 p
  rw [View.read_whole] at h
  exact h

/-- The tile's words of the mask, copied in. -/
theorem mask_in (g0 : Buf (Elt F) ((mkV).view.loc (VT d L))) (fm : Buf (Elt F) (mLoc d)) :
    ((mkV).view.writes (Elt F) g0 [⟨Rect.whole S4096,
      View.read (Elt F) (mV.slice (Rect.unit (s := S131072) (k0_off2 L) S4096.size (k0_off2_inb L)) (fun _ => rfl)).view fm⟩]
        : Buf (Elt F) ((mkV).view.loc (VT d L)))
      = maskG L fm := by
  refine (mask_whole (F := F) d L g0 _).trans ?_
  funext x
  have hx0 : (x 0).val < 4096 := (x 0).isLt
  have h0 : (L 0).val < 2 := (L 0).isLt
  have h1 : (L 1).val < 16 := (L 1).isLt
  refine congrArg fm (?_ : (Rect.unit (s := S131072) (k0_off2 L) S4096.size (k0_off2_inb L)).emb x
    = ix1 ⟨(row0 L + (x 0).val) % 131072, Nat.mod_lt _ (by decide)⟩)
  funext a
  apply Fin.ext
  match a with
  | 0 =>
    show k0_off2 L 0 + 1 * (x 0).val = (8192 * (L 1).val + 4096 * (L 0).val + (x 0).val) % 131072
    rw [k0_off2_eq]
    show 8192 * (L 1).val + 4096 * (L 0).val + 1 * (x 0).val = _
    omega

/-- What the ring writes out of a buffer is the chunk of `sampled` that it copied in. -/
theorem ring_out {κ : Kind} {sp : Space} (v : View sig κ sp S128x64 .f32) (r : v.ty.Contents (Elt F)) (rest : List (View.Piece (Elt F) S128x64 .f32)) (off : Fin 2 → Nat)
    (hb : ∀ a, off a + S128x64.size a ≤ S131072x64.size a) (t : Nat) (ht : t < 32)
    (hoff : off = ![8192 * (L 1).val + 4096 * (L 0).val + 128 * t, 0]) (fs : Buf (Elt F) (sLoc d)) :
    v.read (Elt F) (v.writes (Elt F) r (⟨Rect.whole S128x64,
      View.read (Elt F) (sV.slice (Rect.unit (s := S131072x64) off S128x64.size hb) (fun _ => rfl)).view fs⟩ :: rest)) = chunkOf L t fs := by
  subst hoff
  funext x
  have h := View.read_writes_cons_emb v r (Rect.whole S128x64)
    (View.read (Elt F) (sV.slice (Rect.unit (s := S131072x64) _ S128x64.size hb) (fun _ => rfl)).view fs) rest x
  rw [Rect.emb_whole_apply] at h
  refine h.trans ?_
  have hx0 : (x 0).val < 128 := (x 0).isLt
  show fs _ = fs _
  congr 1
  funext a
  apply Fin.ext
  match a with
  | 0 =>
    show 8192 * (L 1).val + 4096 * (L 0).val + 128 * t + 1 * (x 0).val = (rowOf L t (x 0).val).val
    rw [rowOf_val L t _ ht hx0, Nat.one_mul]
  | 1 => show 0 + 1 * (x 1).val = (x 1).val; omega

/-- One more wait on a DMA semaphore. -/
theorem waits_insert {W W' : Waits sig (HIx 1)} (s : SemLoc sig) (h : ∀ p ∈ W', p ∈ W ∨ p.2 = none) :
    ∀ p ∈ insert (s, (default : HIx 1)) W', p ∈ W ∨ p.2 = none := by
  intro p hp
  rcases Finset.mem_insert.mp hp with rfl | hp
  · exact Or.inr rfl
  · exact h p hp

omit [FloatOps F] in
/-- Where the ring's copies write, from the word that names the row. -/
theorem off4_of (w : BitVec 32) (hw : w.toNat < 4096 ∧ 128 * (w.toNat / 128) = w.toNat) :
    k0_off4 L w = ![8192 * (L 1).val + 4096 * (L 0).val + 128 * (w.toNat / 128), 0] := by
  have h := k0_off4_eq L ⟨w.toNat / 128, by omega⟩
  have hw' : BitVec.ofNat 32 (128 * (w.toNat / 128)) = w := by rw [hw.2]; exact BitVec.eq_of_toNat_eq (by rw [BitVec.toNat_ofNat]; omega)
  rwa [hw'] at h

omit [FloatOps F] in
/-- Where the ring's first copies read, from the word that names the row. -/
theorem off1_of (w : BitVec 32) (hw : w.toNat < 768 ∧ 128 * (w.toNat / 128) = w.toNat) :
    k0_off1 L w = ![8192 * (L 1).val + 4096 * (L 0).val + 128 * (w.toNat / 128), 0] := by
  have h := k0_off1_eq L ⟨w.toNat / 128, by omega⟩
  have hw' : BitVec.ofNat 32 (128 * (w.toNat / 128)) = w := by rw [hw.2]; exact BitVec.eq_of_toNat_eq (by rw [BitVec.toNat_ofNat]; omega)
  rwa [hw'] at h

/-- A chunk that the ring has written. -/
theorem ring_done (w : BitVec 32) (h : ∀ a, k0_off4 L w a + S128x64.size a ≤ S131072x64.size a) (fo g : Buf (Elt F) (oLoc d))
    (p : S128x64.Idx → Elt F .f32) (hw : w.toNat < 4096 ∧ 128 * (w.toNat / 128) = w.toNat) (hp : p = chunkOf L (w.toNat / 128) g) :
    ((oV.slice (Rect.unit (s := S131072x64) (k0_off4 L w) S128x64.size h) (fun _ => rfl)).view.loc (VT d L)
        ↦[(oV.slice (Rect.unit (s := S131072x64) (k0_off4 L w) S128x64.size h) (fun _ => rfl)).view.set]{fullShare}
          (oV.slice (Rect.unit (s := S131072x64) (k0_off4 L w) S128x64.size h) (fun _ => rfl)).view.writes (Elt F) fo [⟨Rect.whole (Rect.unit (s := S131072x64) (k0_off4 L w) S128x64.size h).shape, p⟩] : sProp (MM F))
      = ((oV.slice (Rect.unit (s := S131072x64) (k0_off4 L w) S128x64.size h) (fun _ => rfl)).view.loc (VT d L)
        ↦[(oV.slice (Rect.unit (s := S131072x64) (k0_off4 L w) S128x64.size h) (fun _ => rfl)).view.set]{fullShare} g) :=
  out_piece (F := F) d L _ h (w.toNat / 128) (by omega) (off4_of L w hw) fo g p hp

/-- The same rows of the result, by another spelling of where they start. -/
theorem oPc_off (off off' : Fin 2 → Nat) (e : off = off') (h : ∀ a, off a + S128x64.size a ≤ S131072x64.size a)
    (h' : ∀ a, off' a + S128x64.size a ≤ S131072x64.size a) (f : Buf (Elt F) (oLoc d)) :
    ((oV.slice (Rect.unit (s := S131072x64) off S128x64.size h) (fun _ => rfl)).view.loc (VT d L)
        ↦[(oV.slice (Rect.unit (s := S131072x64) off S128x64.size h) (fun _ => rfl)).view.set]{fullShare} f : sProp (MM F))
      = ((oV.slice (Rect.unit (s := S131072x64) off' S128x64.size h') (fun _ => rfl)).view.loc (VT d L)
        ↦[(oV.slice (Rect.unit (s := S131072x64) off' S128x64.size h') (fun _ => rfl)).view.set]{fullShare} f) := by
  subst e; rfl

/-- The tile's chunks of the result, as one family. -/
theorem outs_family (f : Buf (Elt F) (oLoc d)) :
    outs (F := F) d L f = bigSep Finset.univ fun t : Fin 32 => oPc (F := F) d L (BitVec.ofNat 32 (128 * t.val)) (k0_off4_inb L t) f := by
  iterate 31 rw [bigSep_univ_succ]
  rw [show (Finset.univ : Finset (Fin 1)) = {0} from rfl, bigSep_singleton]
  rfl

/-- The tile's chunks of the result, as the general path slices them. -/
theorem outs_chunks (f : Buf (Elt F) (oLoc d)) :
    outs (F := F) d L f = bigSep Finset.univ fun t : Fin k0_t2_loop.trips => ((oCg L t).view.loc (VT d L) ↦[(oCg L t).view.set]{fullShare} f : sProp (MM F)) := by
  refine (outs_family (F := F) d L f).trans (bigSep_congr fun t _ => ?_)
  exact oPc_off (F := F) d L _ _ ((k0_off4_eq L t).trans (k0_off6_eq L t).symm) _ _ f

/-- The tile's chunks before the general path's loop. -/
theorem outs_before (fo g : Buf (Elt F) (oLoc d)) : outs (F := F) d L fo = bigSep Finset.univ (outT (F := F) d L fo g 0) := by
  refine (outs_chunks (F := F) d L fo).trans (bigSep_congr fun t _ => ?_)
  unfold outT
  rw [if_neg (Nat.not_lt_zero _)]

/-- The tile's chunks after the general path's loop. -/
theorem outs_after (fo g : Buf (Elt F) (oLoc d)) : bigSep Finset.univ (outT (F := F) d L fo g 32) = outs (F := F) d L g := by
  refine (bigSep_congr fun t _ => ?_).trans (outs_chunks (F := F) d L g).symm
  unfold outT
  rw [if_pos (lt_of_lt_of_eq t.isLt trips2)]

/-- The scratch buffers, whatever each holds. -/
theorem scr_of (a b c e r0 r1 r2 r3 r4 r5) :
    iprop(((mkV).view.loc (VT d L) ↦[(mkV).view.set]{fullShare} a) ∗
      ((ckV).view.loc (VT d L) ↦[(ckV).view.set]{fullShare} b) ∗
      ((g8V).view.loc (VT d L) ↦[(g8V).view.set]{fullShare} c) ∗
      ((ixV).view.loc (VT d L) ↦[(ixV).view.set]{fullShare} e) ∗
      ((r0V).view.loc (VT d L) ↦[(r0V).view.set]{fullShare} r0) ∗
      ((r1V).view.loc (VT d L) ↦[(r1V).view.set]{fullShare} r1) ∗
      ((r2V).view.loc (VT d L) ↦[(r2V).view.set]{fullShare} r2) ∗
      ((r3V).view.loc (VT d L) ↦[(r3V).view.set]{fullShare} r3) ∗
      ((r4V).view.loc (VT d L) ↦[(r4V).view.set]{fullShare} r4) ∗
      ((r5V).view.loc (VT d L) ↦[(r5V).view.set]{fullShare} r5)) ⊢ scr (F := F) d L := by
  unfold scr
  iintro ⟨HG, HK, HG8, HI, HR0, HR1, HR2, HR3, HR4, HR5⟩
  isplitl [HG]; · iexists _; iexact HG
  isplitl [HK]; · iexists _; iexact HK
  isplitl [HG8]; · iexists _; iexact HG8
  isplitl [HI]; · iexists _; iexact HI
  isplitl [HR0]; · iexists _; iexact HR0
  isplitl [HR1]; · iexists _; iexact HR1
  isplitl [HR2]; · iexists _; iexact HR2
  isplitl [HR3]; · iexists _; iexact HR3
  isplitl [HR4]; · iexists _; iexact HR4
  iexists _; iexact HR5

/-! ## The body -/

set_option maxHeartbeats 4000000 in
/-- A tile's body writes `outG` to the tile's rows of the result. -/
theorem tile_run (O : CellTallies nD τ sig (HIx 1)) (W : Waits sig (HIx 1)) (q : PosShare TreeShare)
    (fs : Buf (Elt F) (sLoc d)) (fm : Buf (Elt F) (mLoc d)) (fe : Buf (Elt F) (eLoc d)) (fn : Buf (Elt F) (nLoc d)) (fo : Buf (Elt F) (oLoc d))
    (hm : ∀ i, fm i = 0#32 ∨ fm i = 1#32) (hin : ∀ i, (fn i).toNat < 8192) :
    iprop(Transfers.MayWaits (VT d L) (default : HIx 1) O ∗ tileT (F := F) d L q fs fm fe fn fo ∗ owes (VT d L) O W)
      ⊢ wp frame (wpE (defs₀ (F := F)) 𝒱₀ (VT d L) none) Set.univ (body (F := F) L)
          (fun _ => iprop(tileT (F := F) d L q fs fm fe fn (outG fs fm fe fn)
            ∗ ∃ W', ⌜∀ p ∈ W', p ∈ W ∨ p.2 = none⌝ ∗ owes (VT d L) O W')) := by
  unfold tileT toks outs oPc scr cells0
  iintro ⟨#Hmw, ⟨⟨HS0, HS1, HS2, HS3, HS4, HS5⟩, HM, HE, HN, ⟨HO0, HO1, HO2, HO3, HO4, HO5, HO6, HO7, HO8, HO9, HO10, HO11, HO12, HO13, HO14, HO15, HO16, HO17, HO18, HO19, HO20, HO21, HO22, HO23, HO24, HO25, HO26, HO27, HO28, HO29, HO30, HO31⟩,
    ⟨⟨%g0, HG⟩, ⟨%g1, HK⟩, ⟨%g2, HG8⟩, ⟨%g3, HI⟩, ⟨%r0, HR0⟩, ⟨%r1, HR1⟩, ⟨%r2, HR2⟩, ⟨%r3, HR3⟩, ⟨%r4, HR4⟩, ⟨%r5, HR5⟩⟩,
    ⟨HC0, HC1, HC2, HC3, HC4, HC5, HC6, HC7, HC8, HC9, HC10, HC11, HC12, HC13, HC14, Hs, Hc19⟩⟩, HO⟩
  unfold body
  rw [cc0_body_eq_skeleton]; unfold cc0_body_skel
  rw [k0_part33_eq_skeleton, k0_part34_eq_skeleton]
  sl_unfold [k0_part33_skel, k0_part34_skel]
  sl_exec
  have hmk : ((mkV).view.writes (Elt F) g0 [⟨Rect.whole S4096, tile_run.sl.dma0_6 d L fm⟩] : Buf (Elt F) ((mkV).view.loc (VT d L))) = maskG L fm := by
    unfold tile_run.sl.dma0_6
    exact mask_in (F := F) d L _ fm
  ihave HG' := (Entails.of_eq (congrArg (fun f => ((mkV).view.loc (VT d L) ↦[(mkV).view.set]{fullShare} f)) hmk)) $$ HG
  rw [Idealize.SL.Sem.Prog.bind_assoc]
  sl_for (fun (k : Nat) (acc : IVec S16 32) => iprop(⌜acc = accF (maskG L fm) k⌝ ∗ ((mkV).view.loc (VT d L) ↦[(mkV).view.set]{fullShare} maskG L fm))) $$ [HG']
  case region =>
    intro k acc
    iintro ⟨%hacc, HG⟩
    sl_exec
    sl_step
    isplitr
    · ipureintro
      exact acc_step (F := F) d L (maskG L fm) k acc hacc
    · iexact HG
  · isplitr
    · ipureintro; rfl
    · iexact HG'
  iintro %v23 ⟨%hv, HG⟩
  replace hv : v23 = accF (maskG L fm) 256 := hv
  set_option sl_exec.stopBefore "v73" in sl_exec
  obtain ⟨l0, l1, l2, l3, l4, l5, l6, l7, l8, l9, l10, l11, l12, l13, l14, l15⟩ := lanes_out v23
  have e1 : tile_run.sl.v70 v23 = total v23 := by
    unfold total
    rw [← l0, ← l1, ← l2, ← l3, ← l4, ← l5, ← l6, ← l7, ← l8, ← l9, ← l10, ← l11, ← l12, ← l13, ← l14, ← l15]
    rfl
  have e2 : (tile_run.sl.v25 v23) + (tile_run.sl.v27 v23) + (tile_run.sl.v30 v23) + (tile_run.sl.v33 v23) + (tile_run.sl.v36 v23) + (tile_run.sl.v39 v23) + (tile_run.sl.v42 v23) + (tile_run.sl.v45 v23) + (tile_run.sl.v48 v23) + (tile_run.sl.v51 v23) + (tile_run.sl.v54 v23) + (tile_run.sl.v57 v23) + (tile_run.sl.v60 v23) + (tile_run.sl.v63 v23) + (tile_run.sl.v66 v23) + (tile_run.sl.v69 v23) = total v23 := e1
  clear l0 l1 l2 l3 l4 l5 l6 l7 l8 l9 l10 l11 l12 l13 l14 l15
  rcases Classical.em (total v23 = 4096#32) with hs | hs
  · have h1 : tile_run.sl.v73 v23 = 1#1 := (all_iff (tile_run.sl.v70 v23)).mpr (e1.trans hs)
    have h2 : ¬ k0_cond2 (tile_run.sl.v25 v23) (tile_run.sl.v27 v23) (tile_run.sl.v30 v23) (tile_run.sl.v33 v23) (tile_run.sl.v36 v23) (tile_run.sl.v39 v23) (tile_run.sl.v42 v23) (tile_run.sl.v45 v23) (tile_run.sl.v48 v23) (tile_run.sl.v51 v23) (tile_run.sl.v54 v23) (tile_run.sl.v57 v23) (tile_run.sl.v60 v23) (tile_run.sl.v63 v23) (tile_run.sl.v66 v23) (tile_run.sl.v69 v23) = 1#1 :=
      fun h => (rest_iff _ _ _ _ _ _ _ _ _ _ _ _ _ _ _ _).mp h (e2.trans hs)
    clear e1 e2
    have hT : ∀ t, t < 32 → chunkOf (F := F) L t fs = chunkOf L t (outG fs fm fe fn) := fun t ht =>
      chunk_of_total (F := F) L fs fm fe fn hm (hv ▸ hs) t ht
    generalize (outG fs fm fe fn : Buf (Elt F) (oLoc d)) = G at hT ⊢
    sl_exec
    sl_step
    iframe HS0 HS1 HS2 HS3 HS4 HS5 HM HE HN HC0 HC1 HC2 HC3 HC4 HC5 HC6 HC7 HC8 HC9 HC10 HC11 HC12 HC13 HC14 Hs Hc19
    isplitr [HO]
    · isplitr [HG HK HG8 HI HR0 HR1 HR2 HR3 HR4 HR5]
      · istop
        iterate 32 rw [ring_done (F := F) d L _ _ fo G _ ?_ ?_]
        · iintro ⟨⟨⟨⟨⟨⟨⟨⟨⟨⟨⟨⟨⟨⟨⟨⟨⟨⟨⟨⟨⟨⟨⟨⟨⟨⟨⟨⟨⟨⟨⟨⟨-, HO0⟩, HO1⟩, HO2⟩, HO3⟩, HO4⟩, HO5⟩, HO6⟩, HO7⟩, HO8⟩, HO9⟩, HO10⟩, HO11⟩, HO12⟩, HO13⟩, HO14⟩, HO15⟩, HO16⟩, HO17⟩, HO18⟩, HO19⟩, HO20⟩, HO21⟩, HO22⟩, HO23⟩, HO24⟩, HO25⟩, HO26⟩, HO27⟩, HO28⟩, HO29⟩, HO30⟩, HO31⟩
          iframe HO0 HO1 HO2 HO3 HO4 HO5 HO6 HO7 HO8 HO9 HO10 HO11 HO12 HO13 HO14 HO15 HO16 HO17 HO18 HO19 HO20 HO21 HO22 HO23 HO24 HO25 HO26 HO27 HO28 HO29 HO30 HO31
        all_goals first
          | decide
          | exact (ring_out (F := F) d L _ _ _ (k0_off4 L _) _ _ (by decide) (off4_of L _ (by decide)) fs).trans (hT _ (by decide))
          | exact (ring_out (F := F) d L _ _ _ (k0_off1 L _) _ _ (by decide) (off1_of L _ (by decide)) fs).trans (hT _ (by decide))
      · ihave HX := (scr_of (F := F) d L _ _ _ _ _ _ _ _ _ _) $$ [HG HK HG8 HI HR0 HR1 HR2 HR3 HR4 HR5]
        · iframe HG HK HG8 HI HR0 HR1 HR2 HR3 HR4 HR5
        unfold scr
        iexact HX
    · iexists _; iframe HO
      ipureintro
      repeat apply waits_insert
      exact fun p hp => Or.inl hp
  · have h1 : ¬ tile_run.sl.v73 v23 = 1#1 := fun h => hs (e1.symm.trans ((all_iff (tile_run.sl.v70 v23)).mp h))
    have h2 : k0_cond2 (tile_run.sl.v25 v23) (tile_run.sl.v27 v23) (tile_run.sl.v30 v23) (tile_run.sl.v33 v23) (tile_run.sl.v36 v23) (tile_run.sl.v39 v23) (tile_run.sl.v42 v23) (tile_run.sl.v45 v23) (tile_run.sl.v48 v23) (tile_run.sl.v51 v23) (tile_run.sl.v54 v23) (tile_run.sl.v57 v23) (tile_run.sl.v60 v23) (tile_run.sl.v63 v23) (tile_run.sl.v66 v23) (tile_run.sl.v69 v23) = 1#1 :=
      (rest_iff _ _ _ _ _ _ _ _ _ _ _ _ _ _ _ _).mpr fun h => hs (e2.symm.trans h)
    clear e1 e2
    ihave HOs := (Entails.of_eq (outs_before (F := F) d L fo (outG fs fm fe fn))) $$ [HO0 HO1 HO2 HO3 HO4 HO5 HO6 HO7 HO8 HO9 HO10 HO11 HO12 HO13 HO14 HO15 HO16 HO17 HO18 HO19 HO20 HO21 HO22 HO23 HO24 HO25 HO26 HO27 HO28 HO29 HO30 HO31]
    · unfold outs oPc
      iframe HO0 HO1 HO2 HO3 HO4 HO5 HO6 HO7 HO8 HO9 HO10 HO11 HO12 HO13 HO14 HO15 HO16 HO17 HO18 HO19 HO20 HO21 HO22 HO23 HO24 HO25 HO26 HO27 HO28 HO29 HO30 HO31
    sl_exec
    rw [wp_bind]
    iapply (wp_wand_r Idealize.ShloMosaic.frame (wpE (defs₀ (F := F)) 𝒱₀ (VT d L) none) Set.univ)
    isplitl [HS0 HN HC13 HC14 Hc19 HE HG HI HK HG8 Hs HO HOs]
    · iapply (chunks_wp (F := F) d L _ _ _ _ _ _ _ _ _ _ _ _ _ _ _ _ h2 O W (Transfers.shareTokN q 0) q q fs fm fe fn fo hin)
      iframe HOs
      unfold chunkT rowT
      iframe HS0 HN HC13 HC14 Hc19
      iexists _, _
      isplitr
      · iexact Hmw
      iframe HE HG HI HK
      isplitl [HG8]
      · iexists _; iexact HG8
      iframe Hs
      iexists _; iframe HO
      ipureintro
      repeat apply waits_insert
      exact fun p hp => Or.inl hp
    iintro %_ ⟨HT, HOs⟩
    unfold chunkT rowT
    icases HT with ⟨HS0, HN, HC13, HC14, Hc19, %fix, %ck, -, HE, HG, HI, HK, ⟨%g8, HG8⟩, Hs, HO⟩
    sl_step
    iframe HS0 HS1 HS2 HS3 HS4 HS5 HM HE HN HC0 HC1 HC2 HC3 HC4 HC5 HC6 HC7 HC8 HC9 HC10 HC11 HC12 HC13 HC14 Hs Hc19
    iframe HO
    isplitl [HOs]
    · ihave HX := (Entails.of_eq (outs_after (F := F) d L fo (outG fs fm fe fn))) $$ HOs
      unfold outs oPc
      iexact HX
    ihave HX := (scr_of (F := F) d L _ _ _ _ _ _ _ _ _ _) $$ [HG HK HG8 HI HR0 HR1 HR2 HR3 HR4 HR5]
    · iframe HG HK HG8 HI HR0 HR1 HR2 HR3 HR4 HR5
    unfold scr
    iexact HX

end Cert.Proof.Tiles

end
-- ==== Proof.Own.lean ====
/-
  What the launch deals a tile, against what the run of its body holds: the tile's semaphores and scratch buffers among
  its own, its shares of the arrays read, its chunks of the result.
-/
module

public import proofs.«01_k».proof.Proof.Tile

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} (d : Dev nD) (L : grid0.Coords)

/-! ## The tile's semaphores -/

/-- A family over `n + 1` as its first `n` and its last. -/
theorem bigSep_last {n : Nat} (Φ : Fin (n + 1) → sProp (MM F)) :
    bigSep Finset.univ Φ = iprop((bigSep Finset.univ fun k : Fin n => Φ k.castSucc) ∗ Φ (Fin.last n)) := by
  rw [Fin.univ_castSuccEmb, Finset.cons_eq_insert, BI.bigSep_insert (by simp), BI.bigSep_map]
  exact BI.Entails.antisymm BI.sep_comm BI.sep_comm

/-- The tile's DMA semaphore `k`. -/
abbrev dcell (k : Fin 32) : GSem nD τ sig := (VT d L, SemLoc.dma (csem k.val k.isLt))

theorem dcell_mem (k : Fin 32) : dcell d L k ∈ ownCells (VT d L) :=
  mem_ownCells.mpr ⟨rfl, (show ∀ s : DmaSem sig, (SemLoc.dma s : SemLoc sig).isScoped .scVector = true by decide) _⟩

/-- A family over thirty-two as its first fifteen, the sixteen after them and the last. -/
theorem bigSep_cells (Φ : Fin 32 → sProp (MM F)) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14
      ∗ (bigSep Finset.univ fun j : Fin 16 => Φ ⟨15 + j.val, by omega⟩) ∗ Φ 31) := by
  have h : ∀ j : Fin 16, j.castSucc.succ.succ.succ.succ.succ.succ.succ.succ.succ.succ.succ.succ.succ.succ.succ
      = (⟨15 + j.val, by omega⟩ : Fin 32) := by decide
  rw [← bigSep_congr fun j _ => congrArg Φ (h j)]
  iterate 15 rw [bigSep_univ_succ (m := _ + 16)]
  rw [bigSep_last (n := 16)]
  rfl

/-- The semaphores as the run of the body holds them are the thirty-two. -/
theorem cells_family : (cells0 (F := F) d L) = bigSep Finset.univ fun k : Fin 32 => semVal (dcell d L k) 0 := by
  rw [bigSep_cells]
  rfl

/-- The tile's own semaphores at zero: the ones the run of the body holds, and the rest. -/
theorem ownSems_eq : (ownSems0 (VT d L) : sProp (MM F))
    = iprop(cells0 d L ∗ bigSep (ownCells (VT d L) \ Finset.univ.image (dcell d L)) fun g => semVal g 0) := by
  unfold SparseCore.Cfg.ownSems0
  rw [SparseCore.bigSep_sdiff_split' (t := Finset.univ.image (dcell d L)) (Finset.image_subset_iff.mpr fun k _ => dcell_mem d L k),
    SparseCore.bigSep_image_of_injOn (fun a _ b _ h => by
      have := congrArg (fun g : GSem nD τ sig => g.2) h
      simp only [SemLoc.dma.injEq, Fin.mk.injEq] at this; exact Fin.ext this), cells_family]

/-! ## The tile's scratch buffers -/

/-- The ten buffers the body names. -/
def scrRef : Fin 10 → Ref sig .scVector :=
  ![cc0_scratch0, cc0_scratch1, cc0_scratch2, cc0_scratch3, cc0_scratch4, cc0_scratch5, cc0_scratch6, cc0_scratch7, cc0_scratch8, cc0_scratch9]

theorem scrRef_injective : Function.Injective scrRef := by decide

abbrev scrDev (k : Fin 10) : DevRef τ sig := (Proc.scVector (cV L) (jV L)).devRef (scrRef k)

theorem scrDev_mem (k : Fin 10) : scrDev L k ∈ ownRefs (τ := τ) (sig := sig) (.scVector (cV L) (jV L)) := by
  refine SparseCore.Cfg.mem_ownRefs_of_owner ?_
  fin_cases k <;> rfl

theorem pts_whole (b : Ref sig .scVector) :
    (iprop(∃ g : Buf (Elt F) ((View.whole b).loc (VT d L)), (View.whole b).loc (VT d L) ↦[(View.whole b).set]{fullShare} g) : sProp (MM F))
      = iprop(∃ g : Buf (Elt F) ((VT d L).loc b), (VT d L).loc b ↦{fullShare} g) := by
  rw [View.set_whole]

/-- The buffers as the run of the body holds them are the ten. -/
theorem scr_family : (scr (F := F) d L)
    = bigSep Finset.univ fun k : Fin 10 => iprop(∃ g : Buf (Elt F) ((VT d L).loc (scrRef k)), (VT d L).loc (scrRef k) ↦{fullShare} g) := by
  unfold scr
  iterate 9 rw [bigSep_univ_succ]
  rw [bigSep_univ_of_subsingleton (0 : Fin 1)]
  refine congrArg₂ BIBase.sep (pts_whole d L cc0_scratch0) ?_
  refine congrArg₂ BIBase.sep (pts_whole d L cc0_scratch1) ?_
  refine congrArg₂ BIBase.sep (pts_whole d L cc0_scratch2) ?_
  refine congrArg₂ BIBase.sep (pts_whole d L cc0_scratch3) ?_
  refine congrArg₂ BIBase.sep (pts_whole d L cc0_scratch4) ?_
  refine congrArg₂ BIBase.sep (pts_whole d L cc0_scratch5) ?_
  refine congrArg₂ BIBase.sep (pts_whole d L cc0_scratch6) ?_
  refine congrArg₂ BIBase.sep (pts_whole d L cc0_scratch7) ?_
  exact congrArg₂ BIBase.sep (pts_whole d L cc0_scratch8) (pts_whole d L cc0_scratch9)

/-- The tile's own buffers, at any contents: the ones the run of the body holds, and the rest. -/
theorem ownBufs_eq : (ownBufs (VT d L) : sProp (MM F))
    = iprop(scr d L ∗ bigSep (ownRefs (τ := τ) (sig := sig) (.scVector (cV L) (jV L)) \ Finset.univ.image (scrDev L))
        fun b => iprop(∃ f, ((d, b) : Loc nD τ sig) ↦{fullShare} f)) := by
  unfold SparseCore.Cfg.ownBufs
  refine (SparseCore.bigSep_sdiff_split' (t := Finset.univ.image (scrDev L)) (Finset.image_subset_iff.mpr fun k _ => scrDev_mem L k)).trans ?_
  rw [SparseCore.bigSep_image_of_injOn (fun a _ b _ h => scrRef_injective (Proc.devRef_injective _ h)), scr_family]

/-! ## The tile's shares and chunks -/

/-- The tile of SparseCore `c`, vector subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The tile's share of an array that every tile reads: one of thirty-two. -/
abbrev tq (c : Fin 2) (s : Fin 16) : PosShare TreeShare := piece fullShare 31 (finProdFinEquiv (c, s))

/-- The elements of the result in chunk `t` of the tile. -/
abbrev oSet (t : Fin 32) : Finset S131072x64.Idx := (oCk L t).view.set

/-- What the launch deals the tile at share `q`: its share of each array read, its chunks of the result at `f`. -/
def dealt (q : PosShare TreeShare) (fs : Buf (Elt F) (sLoc d)) (fm : Buf (Elt F) (mLoc d)) (fe : Buf (Elt F) (eLoc d)) (fn : Buf (Elt F) (nLoc d))
    (f : Buf (Elt F) (oLoc d)) : sProp (MM F) :=
  iprop((sLoc d ↦{q} fs) ∗ (mLoc d ↦{q} fm) ∗ (eLoc d ↦{q} fe) ∗ (nLoc d ↦{q} fn)
    ∗ bigSep Finset.univ fun t : Fin 32 => oLoc d ↦[oSet L t]{fullShare} f)

/-- A share of `sampled` is what is left of it after six are cut off, and the six. -/
theorem toks_eq (q : PosShare TreeShare) (fs : Buf (Elt F) (sLoc d)) :
    (sLoc d ↦{q} fs : sProp (MM F)) ⊣⊢ iprop((sLoc d ↦{Transfers.shareDrop q 6} fs) ∗ toks d L q fs) := by
  have h : (sLoc d ↦{q} fs : sProp (MM F)) ⊣⊢ iprop((sLoc d ↦{Transfers.shareDrop q 6} fs)
      ∗ bigSep (Finset.range 6) fun i => sLoc d ↦{Transfers.shareTokN q i} fs) :=
    Transfers.pointsTo_toks_range (ℓ := sLoc d) (S := Finset.univ) (f := fs) q 6
  rw [show Finset.range 6 = {0, 1, 2, 3, 4, 5} by decide, SparseCore.bigSep_insert' (by decide), SparseCore.bigSep_insert' (by decide),
    SparseCore.bigSep_insert' (by decide), SparseCore.bigSep_insert' (by decide), SparseCore.bigSep_insert' (by decide), bigSep_singleton] at h
  exact h

/-- The tile's chunks of the result, as the run of the body holds them. -/
theorem outs_eq [FloatOps F] (f : Buf (Elt F) (oLoc d)) :
    (bigSep Finset.univ fun t : Fin 32 => (oLoc d ↦[oSet L t]{fullShare} f : sProp (MM F))) = outs d L f :=
  (outs_family d L f).symm

variable [FloatOps F]

/-- The body of a tile, from what the launch deals it to what it hands back: the chunks of the result written. -/
theorem tile_body (hF : (K (F := F)).Facts) (O : CellTallies nD τ sig (HIx 1)) (W : Waits sig (HIx 1)) (hO : ∀ g, O g none = 0)
    (q : PosShare TreeShare) (fs : Buf (Elt F) (sLoc d)) (fm : Buf (Elt F) (mLoc d)) (fe : Buf (Elt F) (eLoc d)) (fn : Buf (Elt F) (nLoc d))
    (fo : Buf (Elt F) (oLoc d)) (hm : ∀ i, fm i = 0#32 ∨ fm i = 1#32) (hin : ∀ i, (fn i).toNat < 8192) :
    iprop(levAts (K (F := F)).L (K (F := F)).lev ∗ emp ∗ dealt d L q fs fm fe fn fo
        ∗ scopedBufs (VT d L) ∗ scopedSems0 (VT d L) ∗ owes (VT d L) O W)
      ⊢ wp frame (wpE (defs₀ (F := F)) 𝒱₀ (VT d L) none) Set.univ (body (F := F) L)
          fun _ => iprop(dealt d L q fs fm fe fn (outG fs fm fe fn)
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems_eq, ownBufs_eq]
  unfold dealt
  rw [outs_eq, outs_eq]
  iintro ⟨#Hlv, -, ⟨HS, HM, HE, HN, HOs⟩, ⟨Hscr, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HS' := (toks_eq (F := F) d L q fs).1 $$ HS
  icases HS' with ⟨HSr, HSt⟩
  iapply (wp_wand_r Idealize.ShloMosaic.frame (wpE (defs₀ (F := F)) 𝒱₀ (VT d L) none) Set.univ)
  isplitl [HSt HM HE HN HOs Hscr HC HO]
  · iapply (tile_run (F := F) d L O W q fs fm fe fn fo hm hin)
    isplitr; · iexact Hmw
    isplitr [HO]
    · unfold tileT
      iframe HSt HOs Hscr HC
      isplitl [HM]; · iexact HM
      isplitl [HE]; · iexact HE
      iexact HN
    iexact HO
  unfold tileT
  iintro %_ ⟨⟨HSt, HM, HE, HN, HOs, Hscr, HC⟩, %W', %hW', HO⟩
  ihave HS := (toks_eq (F := F) d L q fs).2 $$ [HSr HSt]
  · isplitl [HSr]; · iexact HSr
    iexact HSt
  isplitl [HS HM HE HN HOs]
  · isplitl [HS]; · iexact HS
    isplitl [HM]; · iexact HM
    isplitl [HE]; · iexact HE
    isplitl [HN]; · iexact HN
    iexact HOs
  isplitl [Hscr Hbufs]
  · iframe Hscr Hbufs
  isplitl [HC Hsems]
  · iframe HC Hsems
  iexists W'; isplitr
  · ipureintro; exact fun p hp => (hW' p hp).imp_right Or.inl
  · iexact HO

end Cert.Proof.Tiles

end
-- ==== Proof.Launch.lean ====
/-
  The launch: the arrays dealt to the thirty-two tiles and gathered back, the host's conversion of the mask before it,
  and the whole program's run, with the result and the arguments at its end.
-/
module

public import proofs.«01_k».proof.Proof.Own

@[expose] public section

noncomputable section

namespace Cert.Proof.Tiles

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)
open Idealize.ShloMosaic.ValueIdx (ix1 ix2)

variable {F : FTy → Type} (d : Dev nD)

/-! ## The arrays over the tiles -/

/-- An array read by every tile, held whole, is held at the thirty-two shares. -/
theorem shares_eq {ℓ : Loc nD τ sig} (f : Buf (Elt F) ℓ) :
    (ℓ ↦{fullShare} f : sProp (MM F)) = bigSep Finset.univ fun p : Fin 2 × Fin 16 => ℓ ↦{tq p.1 p.2} f := by
  rw [pointsTo_pieces Finset.univ f 31 fullShare]
  exact bigSep_univ_equiv (finProdFinEquiv : Fin 2 × Fin 16 ≃ Fin (2 * 16)) _

/-- Which elements chunk `t` of a tile holds: 128 rows from row `8192 s + 4096 c + 128 t`. -/
theorem mem_oSet (c : Fin 2) (s : Fin 16) (t : Fin 32) (x : S131072x64.Idx) :
    x ∈ oSet (coordsV c s) t ↔ (x 0).val / 128 = 64 * s.val + 32 * c.val + t.val := by
  have hx : (x 1).val < 64 := (x 1).isLt
  have hset : oSet (coordsV c s) t = (Rect.unit (s := S131072x64) (k0_off4 (coordsV c s) (BitVec.ofNat 32 (128 * t.val))) S128x64.size (k0_off4_inb (coordsV c s) t)).set := by
    show ((View.whole (main_v1_scv : Ref sig .scVector)).slice _).set = _
    rw [View.set_slice]; exact Finset.map_refl
  rw [hset, Rect.mem_set_unit, k0_off4_eq]
  have h0 : ((coordsV c s) 0).val = c.val := rfl
  have h1 : ((coordsV c s) 1).val = s.val := rfl
  have e0 : ∀ n : Nat, (![n, 0] : Fin 2 → Nat) 0 = n := fun _ => rfl
  have e1 : ∀ n : Nat, (![n, 0] : Fin 2 → Nat) 1 = 0 := fun _ => rfl
  have s0 : S128x64.size 0 = 128 := rfl
  have s1 : S128x64.size 1 = 64 := rfl
  constructor
  · intro h
    have h := h 0
    rw [e0, s0, h0, h1] at h
    omega
  · intro h a
    match a with
    | 0 => rw [e0, s0, h0, h1]; omega
    | 1 => rw [e1, s1]; omega

/-- The result, held whole, is held at the tiles' chunks. -/
theorem chunks_eq (f : Buf (Elt F) (oLoc d)) :
    (oLoc d ↦{fullShare} f : sProp (MM F)) = bigSep Finset.univ fun p : Fin 2 × Fin 16 =>
      bigSep Finset.univ fun t : Fin 32 => oLoc d ↦[oSet (coordsV p.1 p.2) t]{fullShare} f := by
  rw [← BI.bigSep_univ_prod (fun p : (Fin 2 × Fin 16) × Fin 32 => (oLoc d ↦[oSet (coordsV p.1.1 p.1.2) p.2]{fullShare} f : sProp (MM F))),
    ← pointsTo_biUnion Finset.univ (ℓ := oLoc d) (fun p : (Fin 2 × Fin 16) × Fin 32 => oSet (coordsV p.1.1 p.1.2) p.2)]
  · refine congrArg (fun S : Finset S131072x64.Idx => (oLoc d ↦[S]{fullShare} f : sProp (MM F))) ?_
    refine (Finset.eq_univ_of_forall fun x => Finset.mem_biUnion.mpr ?_).symm
    have hx : (x 0).val < 131072 := (x 0).isLt
    refine ⟨((⟨(x 0).val / 128 / 32 % 2, by omega⟩, ⟨(x 0).val / 128 / 64, by omega⟩), ⟨(x 0).val / 128 % 32, by omega⟩), Finset.mem_univ _, ?_⟩
    rw [mem_oSet]
    show (x 0).val / 128 = 64 * ((x 0).val / 128 / 64) + 32 * ((x 0).val / 128 / 32 % 2) + (x 0).val / 128 % 32
    omega
  · rintro ⟨⟨c, s⟩, t⟩ - ⟨⟨c', s'⟩, t'⟩ - hne
    rw [Finset.disjoint_left]
    intro x h h'
    rw [mem_oSet] at h h'
    refine hne (Prod.ext (Prod.ext (Fin.ext ?_) (Fin.ext ?_)) (Fin.ext ?_))
    all_goals
      have := c.isLt; have := s.isLt; have := t.isLt; have := c'.isLt; have := s'.isLt; have := t'.isLt
      dsimp only at h h' ⊢
      omega

/-- What the tiles are dealt, all together: the five arrays whole. -/
theorem dealt_all (fs : Buf (Elt F) (sLoc d)) (fm : Buf (Elt F) (mLoc d)) (fe : Buf (Elt F) (eLoc d)) (fn : Buf (Elt F) (nLoc d)) (f : Buf (Elt F) (oLoc d)) :
    (bigSep Finset.univ fun c : Fin 2 => bigSep Finset.univ fun s : Fin 16 => dealt d (coordsV c s) (tq c s) fs fm fe fn f)
      = iprop((sLoc d ↦{fullShare} fs) ∗ (mLoc d ↦{fullShare} fm) ∗ (eLoc d ↦{fullShare} fe) ∗ (nLoc d ↦{fullShare} fn) ∗ oLoc d ↦{fullShare} f) := by
  rw [← BI.bigSep_univ_prod (fun p : Fin 2 × Fin 16 => dealt d (coordsV p.1 p.2) (tq p.1 p.2) fs fm fe fn f)]
  unfold dealt
  rw [bigSep_sep', bigSep_sep', bigSep_sep', bigSep_sep', ← shares_eq, ← shares_eq, ← shares_eq, ← shares_eq, ← chunks_eq]

/-! ## What the launch hands over -/

variable (m : (ℓ : Loc nD τ sig) → Buf (Elt F) ℓ)

/-- The mask as words, as the host's conversion leaves it. -/
abbrev wordsOf : Buf (Elt F) (mLoc d) := extui 32 (m (bLoc d) : S131072.Idx → BitVec 1) natLt_1_32

/-- The result the tiles leave. -/
abbrev resOf : Buf (Elt F) (oLoc d) := outG (m (sLoc d)) (wordsOf d m) (m (eLoc d)) (m (nLoc d))

/-- What the memory at launch must satisfy: every word of `ind` below 8192. -/
def PreOK : Prop := ∀ (d : Dev nD) (j : S131072.Idx), (m (nLoc d) j : BitVec 32).toNat < 8192

/-- What tile `(c, s)` is dealt, the result at `f`. -/
abbrev tileD (c : Fin 2) (s : Fin 16) (f : Buf (Elt F) (oLoc d)) : sProp (MM F) :=
  dealt d (coordsV c s) (tq c s) (m (sLoc d)) (wordsOf d m) (m (eLoc d)) (m (nLoc d)) f

instance dealt_storable (L : grid0.Coords) (q : PosShare TreeShare) (fs : Buf (Elt F) (sLoc d)) (fm : Buf (Elt F) (mLoc d)) (fe : Buf (Elt F) (eLoc d))
    (fn : Buf (Elt F) (nLoc d)) (f : Buf (Elt F) (oLoc d)) : BI.Storable (upEmb : UEmb _ (MM F)) (dealt d L q fs fm fe fn f) := by
  unfold dealt; infer_instance

instance tiles_storable (c : Fin 2) (f : Buf (Elt F) (oLoc d)) :
    BI.Storable (upEmb : UEmb _ (MM F)) (bigSep Finset.univ fun s : Fin 16 => tileD d m c s f) := by
  have h : ∀ s : Fin 16, BI.Storable (upEmb : UEmb _ (MM F)) (tileD d m c s f) := fun s => inferInstance
  exact BI.Storable.bigSep _ _ _

/-- The one call: each SparseCore takes its sixteen tiles' shares and chunks and brings them back, the chunks written. -/
def P : (K (F := F)).Pay (nD := nD) (Val := Elt F) (Name := ℕ) (U := UU) where
  st := fun q d c => match q with | 0 => bigSep Finset.univ fun s : Fin 16 => tileD d m (Fin.cast nCore_zero c) s (m (oLoc d))
  dn := fun q d c => match q with | 0 => bigSep Finset.univ fun s : Fin 16 => tileD d m (Fin.cast nCore_zero c) s (resOf d m)
  go := fun q d c i => match q with | 0 => tileD d m (Fin.cast nCore_zero c) (Fin.cast nSub_zero i) (m (oLoc d))
  td := fun q d c i => match q with | 0 => tileD d m (Fin.cast nCore_zero c) (Fin.cast nSub_zero i) (resOf d m)
  x := fun _ _ => iprop(emp)

instance P_storable : (P (F := F) m).IsStorable where
  st q d c := match q with
    | 0 => tiles_storable d m (Fin.cast nCore_zero c) (m (oLoc d))
  dn q d c := match q with
    | 0 => tiles_storable d m (Fin.cast nCore_zero c) (resOf d m)
  go q d c i := match q with
    | 0 => (inferInstance : BI.Storable (upEmb : UEmb _ (MM F)) (tileD d m (Fin.cast nCore_zero c) (Fin.cast nSub_zero i) (m (oLoc d))))
  td q d c i := match q with
    | 0 => (inferInstance : BI.Storable (upEmb : UEmb _ (MM F)) (tileD d m (Fin.cast nCore_zero c) (Fin.cast nSub_zero i) (resOf d m)))

/-- A SparseCore's sixteen tiles, counted as the launch counts them. -/
theorem bigSep_tiles (Φ : Fin 16 → sProp (MM F)) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun s : Fin 16 => tileD d m (Fin.cast nCore_zero c) s (m (oLoc d))) ⊢ |={Set.univ}=> iprop(
      (bigSep Finset.univ fun i : Fin ((K (F := F)).nSub 0) => tileD d m (Fin.cast nCore_zero c) (Fin.cast nSub_zero i) (m (oLoc d)))
      ∗ ((bigSep Finset.univ fun i : Fin ((K (F := F)).nSub 0) => tileD d m (Fin.cast nCore_zero c) (Fin.cast nSub_zero i) (resOf d m))
          -∗ bigSep Finset.univ fun s : Fin 16 => tileD d m (Fin.cast nCore_zero c) s (resOf d m)))
  rw [bigSep_tiles (F := F) (fun s => tileD d m (Fin.cast nCore_zero c) s (m (oLoc d))),
    bigSep_tiles (F := F) (fun s => tileD d m (Fin.cast nCore_zero c) s (resOf d m))]
  iintro H; imodintro
  isplitl [H]; · iexact H
  iintro H; iexact H

/-- A word of the converted mask is zero or one. -/
theorem words_bit (i : S131072.Idx) : wordsOf d m i = 0#32 ∨ wordsOf d m i = 1#32 :=
  (show ∀ b : BitVec 1, b.setWidth 32 = 0#32 ∨ b.setWidth 32 = 1#32 by decide) _

section Run

variable [FloatOps F]

theorem defs₀_vector (c : Fin τ.nSC) (s : Fin τ.nSub) :
    defs₀ (F := F) (.scVector c s) 0 () = SparseCore.onTile hcore0 hsub0 (fun c s => body (F := F) (coordsV c s)) ⟨⟩ c s := rfl

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) hF O W hO _ (m (sLoc d)) (wordsOf d m) (m (eLoc d)) (m (nLoc d)) (m (oLoc d)) (words_bit d m) (hpre d)

/-! ## The handshakes at launch -/

def u₀ : UU := (initOf (K (F := F)).hsCells (K (F := F)).hsToks, 1)

/-- Nothing, over any family. -/
theorem emps {I : Type} (s : Finset I) : (bigSep s fun _ => iprop(emp)) = (iprop(emp) : sProp (MM F)) := bigSep_emp_const s

theorem hu₀ : (ownU (u₀ (F := F)) : sProp (MM F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## The host's conversion and the call -/

abbrev s' : DevRef τ sig := Proc.devRef .tc (main_arg0 : Ref sig .tc)
abbrev b' : DevRef τ sig := Proc.devRef .tc (main_arg1 : Ref sig .tc)
abbrev e' : DevRef τ sig := Proc.devRef .tc (main_arg2 : Ref sig .tc)
abbrev n' : DevRef τ sig := Proc.devRef .tc (main_arg3 : Ref sig .tc)
abbrev m' : DevRef τ sig := Proc.devRef .tc (main_v0 : Ref sig .tc)
abbrev o' : DevRef τ sig := Proc.devRef .tc (main_v1 : Ref sig .tc)

/-- The conversion of the mask to words. -/
abbrev opX : HloOp τ sig (Elt F) :=
  StableHlo.unary main_arg1 main_v0 ((extui 32 · natLt_1_32) : (⟨S131072, .i1⟩ : BufTy).Contents (Elt F) → (⟨S131072, .i32⟩ : BufTy).Contents (Elt F))

/-- The program's six arrays. -/
abbrev S6 : Finset (DevRef τ sig) := {s', b', e', n', m', o'}

theorem held_S6 (W : Valuation τ sig (Elt F)) :
    (held (T d) S6 W : sProp (MM F)) = iprop((sLoc d ↦{fullShare} W s') ∗ (bLoc d ↦{fullShare} W b') ∗ (eLoc d ↦{fullShare} W e')
      ∗ (nLoc d ↦{fullShare} W n') ∗ (mLoc d ↦{fullShare} W m') ∗ oLoc d ↦{fullShare} W o') := by
  unfold held S6
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (W : (b : Ref sig .tc) → Buf (Elt F) ((d.tc : Thread nD τ).loc b)) :
    (unscopedBufs d W : sProp (MM F)) = iprop((sLoc d ↦{fullShare} W main_arg0) ∗ (bLoc d ↦{fullShare} W main_arg1) ∗ (eLoc d ↦{fullShare} W main_arg2)
      ∗ (nLoc d ↦{fullShare} W main_arg3) ∗ (mLoc d ↦{fullShare} W main_v0) ∗ oLoc d ↦{fullShare} W main_v1) := by
  unfold unscopedBufs
  rw [show (Finset.univ.filter fun b : Ref sig .tc => ¬ b.isScoped) = {main_arg0, main_arg1, main_arg2, main_arg3, main_v0, main_v1} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at launch. -/
def V0 : Valuation τ sig (Elt F) := fun b => m (d, b)

theorem unscoped_held : (unscopedBufs d (fun b => m ((SparseCore.T d).loc b)) : sProp (MM F)) = held (T d) S6 (V0 d m) := by
  rw [unscopedBufs_eq, held_S6]; rfl

theorem opX_sub : (opX (F := F)).bufs ⊆ S6 := show ({b', m'} : Finset (DevRef τ sig)) ⊆ S6 by decide

/-- The conversion leaves every array but the words'. -/
theorem opX_keeps (b : DevRef τ sig) (h : b ∉ ({m'} : Finset (DevRef τ sig))) : (opX (F := F)).result (V0 d m) b = V0 d m b :=
  (opX (F := F)).result_of_not_mem (V0 d m) (b := b) h

theorem opX_words : (opX (F := F)).result (V0 d m) m' = wordsOf d m := StableHlo.unary_result ..

/-- The arrays after the conversion. -/
theorem held_words : (held (T d) S6 ((opX (F := F)).result (V0 d m)) : sProp (MM F))
    = iprop((sLoc d ↦{fullShare} m (sLoc d)) ∗ (bLoc d ↦{fullShare} m (bLoc d)) ∗ (eLoc d ↦{fullShare} m (eLoc d))
      ∗ (nLoc d ↦{fullShare} m (nLoc d)) ∗ (mLoc d ↦{fullShare} wordsOf d m) ∗ oLoc d ↦{fullShare} m (oLoc d)) := by
  rw [held_S6, opX_words, opX_keeps d m s' (by decide), opX_keeps d m b' (by decide), opX_keeps d m e' (by decide), opX_keeps d m n' (by decide),
    opX_keeps d m o' (by decide)]
  rfl

theorem st0_eq : (bigSep Finset.univ fun c : Fin ((K (F := F)).nCore 0) => (P m).st 0 d c)
    = iprop((sLoc d ↦{fullShare} m (sLoc d)) ∗ (mLoc d ↦{fullShare} wordsOf d m) ∗ (eLoc d ↦{fullShare} m (eLoc d)) ∗ (nLoc d ↦{fullShare} m (nLoc d))
      ∗ oLoc d ↦{fullShare} m (oLoc d)) :=
  dealt_all d (m (sLoc d)) (wordsOf d m) (m (eLoc d)) (m (nLoc d)) (m (oLoc d))

theorem dn0_eq : (bigSep Finset.univ fun c : Fin ((K (F := F)).nCore 0) => (P m).dn 0 d c)
    = iprop((sLoc d ↦{fullShare} m (sLoc d)) ∗ (mLoc d ↦{fullShare} wordsOf d m) ∗ (eLoc d ↦{fullShare} m (eLoc d)) ∗ (nLoc d ↦{fullShare} m (nLoc d))
      ∗ oLoc d ↦{fullShare} resOf d m) :=
  dealt_all d (m (sLoc d)) (wordsOf d m) (m (eLoc d)) (m (nLoc d)) (resOf d m)

/-- What the program leaves: the arguments as they were, the result written. -/
abbrev FIN : sProp (MM F) :=
  iprop((sLoc d ↦{fullShare} m (sLoc d)) ∗ (bLoc d ↦{fullShare} m (bLoc d)) ∗ (eLoc d ↦{fullShare} m (eLoc d)) ∗ (nLoc d ↦{fullShare} m (nLoc d))
    ∗ oLoc d ↦{fullShare} resOf d m)

variable (ρ : Dev nD → PrngReg)

/-- The host program on a device: the conversion, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN d m ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) opX_sub (V := V0 d m)) $$ [Hb Hheld]
  · isplitl [Hb]; · iexact Hb
    iexact Hheld
  iintro ⟨Hb, Hheld⟩
  ihave Hh := (Entails.of_eq (held_words (F := F) d m)) $$ Hheld
  icases Hh with ⟨Hs, Hk, He, Hn, Hm, Ho⟩
  rw [wp_ret]; imodintro
  iapply ((K (F := F)).wp_run (D (F := F)) 𝒱 (EH := EH) (P := P m) κ d 0) $$ [Hst Hs Hk He Hn Hm Ho Hb Hts]
  isplitr; · iexact Hctx
  isplitl [Hst]; · iexact Hst
  isplitl [Hs Hm He Hn Ho]
  · rw [st0_eq]
    isplitl [Hs]; · iexact Hs
    isplitl [Hm]; · iexact Hm
    isplitl [He]; · iexact He
    isplitl [Hn]; · iexact Hn
    iexact Ho
  iintro ⟨Hst, Hdn⟩
  ihave Hdn' := (Entails.of_eq (dn0_eq d m)) $$ Hdn
  icases Hdn' with ⟨Hs, -, He, Hn, Ho⟩
  imodintro
  isplitl [Hst]; · iexact Hst
  isplitr [Hb Hts]
  · isplitl [Hs]; · iexact Hs
    isplitl [Hk]; · iexact Hk
    isplitl [He]; · iexact He
    isplitl [Hn]; · iexact Hn
    iexact Ho
  isplitl [Hb] <;> iassumption

/-! ## The run -/

/-- A device's arrays at the end: the arguments as they were, the result written. -/
def fq (d : Dev nD) (s : Phys nD τ sig (Elt F)) : Prop :=
  s.mem.mem (oLoc d) = resOf d m ∧ s.mem.mem (sLoc d) = m (sLoc d) ∧ s.mem.mem (bLoc d) = m (bLoc d) ∧ s.mem.mem (eLoc d) = m (eLoc d)
    ∧ s.mem.mem (nLoc d) = m (nLoc d)

/-- An array held whole is what the memory holds. -/
theorem agrees (s : Phys nD τ sig (Elt F)) (ℓ : Loc nD τ sig) (f : Buf (Elt F) ℓ) :
    iprop(SI s ∗ (ℓ ↦{fullShare} f)) ⊢ (iprop(⌜s.mem.mem ℓ = f⌝ ∗ SI s) : sProp (MM F)) := by
  iintro ⟨HSI, H⟩
  ihave H := (persistent_entails_right (SI_pointsTo_agree (st := s) (ℓ := ℓ) (I := Finset.univ) (q := fullShare) (f := f))) $$ [HSI H]
  · isplitl [HSI] <;> iassumption
  icases H with ⟨%h, HSI, -⟩
  isplitr
  · ipureintro; exact funext fun i => h i (Finset.mem_univ i)
  · iexact HSI

theorem hfin (d : Dev nD) (s : Phys nD τ sig (Elt F)) : iprop(FIN d m ∗ SI s) ⊢ (⌜fq m d s⌝ : sProp (MM F)) := by
  iintro ⟨⟨Hs, Hk, He, Hn, Ho⟩, HSI⟩
  ihave H := (agrees s (sLoc d) (m (sLoc d))) $$ [HSI Hs]
  · iframe HSI Hs
  icases H with ⟨%h1, HSI⟩
  ihave H := (agrees s (bLoc d) (m (bLoc d))) $$ [HSI Hk]
  · iframe HSI Hk
  icases H with ⟨%h2, HSI⟩
  ihave H := (agrees s (eLoc d) (m (eLoc d))) $$ [HSI He]
  · iframe HSI He
  icases H with ⟨%h3, HSI⟩
  ihave H := (agrees s (nLoc d) (m (nLoc d))) $$ [HSI Hn]
  · iframe HSI Hn
  icases H with ⟨%h4, HSI⟩
  ihave H := (agrees s (oLoc d) (resOf d m)) $$ [HSI Ho]
  · iframe HSI Ho
  icases H with ⟨%h5, HSI⟩
  ipureintro
  exact ⟨h5, h1, h2, h3, h4⟩

/-- The end of a run: the result written and the arguments as they were on every device, every counter at zero. -/
def QC : PUnit × MemSt nD τ sig (Elt F) → Prop := fun r =>
  (∀ c : Dev nD, r.2.mem (oLoc c) = resOf c m ∧ r.2.mem (sLoc c) = m (sLoc c) ∧ r.2.mem (bLoc c) = m (bLoc c) ∧ r.2.mem (eLoc c) = m (eLoc c)
    ∧ r.2.mem (nLoc c) = m (nLoc c)) ∧ r.2.sem = fun _ => 0

/-- The whole program's run, for any float values, from any memory whose indices are below 8192. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (fun d => FIN d m) (u₀ (F := F)) (sep_elim_left.trans (hu₀ m)) (hmain m ρ) (fq m) (hfin m) (QC m) (fun _ h hz => ⟨h, hz⟩)

end Run

end Cert.Proof.Tiles

end
-- ==== Proof.Values.lean ====
/-
  The values: what the precondition says of the indices, what the reference's term computes under it, and that this
  is the array the kernel leaves.
-/
module

public import proofs.«01_k».proof.Proof.Launch
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.StableHlo.Predicate
public import Idealize.ShloMosaic.Lib.Quiescent

@[expose] public section

noncomputable section

namespace Cert.Proof.Values

open Idealize.ShloMosaic Idealize.SL.Sem
open Idealize.ShloMosaic.ValueIdx (ix1 ix2 ix0)
open Idealize.ShloMosaic.StableHlo.Predicate (sge_iff_toNat slt_iff_toNat sle_iff_toNat toInt_eq_toNat_of_lt)

/-! ## What the precondition says -/

/-- A 32-bit word that is, read signed, at least 0 and below 8192 is below 8192 read unsigned. -/
theorem lt_of_bounds {v : BitVec 32} (h0 : IntOp.cmpi .sge v 0#32 = 1#1) (h1 : IntOp.cmpi .slt v 8192#32 = 1#1) : v.toNat < 8192 := by
  simp only [IntOp.cmpi, StableHlo.Predicate.ofBool_eq_one_iff, BitVec.sle_eq_decide, BitVec.slt_eq_decide, decide_eq_true_eq, BitVec.toInt_eq_toNat_cond, BitVec.toNat_ofNat,
    Nat.reducePow, Nat.reduceMod] at h0 h1
  omega

section Pre

open Cert.Pre_in_range

variable {F : FTy → Type} [FloatOps F]

instance : Subsingleton S_.Idx := ⟨fun a b => funext fun k => k.elim0⟩

/-- Where the precondition holds, every index is below 8192. -/
theorem index_lt (a : FVec F S131072x64 .f32) (b : IVec S131072 1) (c : FVec F S8192x64 .f32) (n : IVec S131072 32)
    (h : Cert.Pre_in_range.fn a b c n = fun _ => 1#1) (j : S131072.Idx) : (n j).toNat < 8192 := by
  have e := Host.reduce_andi_all _ _ _ _ ix0 (congrFun h ix0) j
  obtain ⟨h0, h1⟩ := IntOp.andi_eq_one.1 e
  exact lt_of_bounds h0 h1

end Pre

/-! ## What the reference computes -/

section Reference

open Cert.ReferenceIdeal Cert.ReferenceIdeal.Gen

variable {α : Type}

/-- A vector spread over one column: row `i` holds the vector's entry `i`. -/
theorem column_apply (h : S131072.BroadcastsInDim S131072x1 ![0]) (x : S131072.Idx → α) (j : S131072x1.Idx) :
    broadcastInDim S131072x1 ![0] h x j = x (ix1 (j 0)) :=
  congrArg x (funext fun a => match a with | ⟨0, _⟩ => rfl)

/-- A vector spread over 64 columns: every column of row `i` holds the vector's entry `i`. -/
theorem rows_apply (h : S131072.BroadcastsInDim S131072x64 ![0]) (x : S131072.Idx → α) (j : S131072x64.Idx) :
    broadcastInDim S131072x64 ![0] h x j = x (ix1 (j 0)) :=
  congrArg x (funext fun a => match a with | ⟨0, _⟩ => rfl)

/-- One column spread over 64: every column of row `i` holds the column's entry `i`. -/
theorem wide_apply (h : S131072x1.BroadcastsInDim S131072x64 ![0, 1]) (x : S131072x1.Idx → α) (j : S131072x64.Idx) :
    broadcastInDim S131072x64 ![0, 1] h x j = x (ix2 (j 0) 0) :=
  congrArg x (funext fun a => match a with | ⟨0, _⟩ => rfl | ⟨1, _⟩ => rfl)

/-- The table gathered at one column of row numbers: row `i` of the result is the table row that the number names,
    read signed and clamped into the table. -/
theorem gather_row (x : S8192x64.Idx → α) (idx : IVec S131072x1 32) (y : S131072x64.Idx) :
    Host.gather gather_S8192x64_S131072x1_S131072x64_1_0_n_n_0_1_164 x idx y
      = x (ix2 ⟨min (idx (ix2 (y 0) 0)).toInt.toNat 8191, by omega⟩ (y 1)) := by
  refine congrArg x (funext fun a => Fin.ext ?_)
  have hnb : a ∉ gather_S8192x64_S131072x1_S131072x64_1_0_n_n_0_1_164.operandBatchingDims := List.not_mem_nil
  show GatherDims.start _ y idx a + GatherDims.batchCoord _ y a + GatherDims.offCoord _ y a = _
  rw [GatherDims.batchCoord_eq_zero _ _ _ hnb, Nat.add_zero]
  match a with
  | ⟨0, _⟩ =>
    have hin : (0 : Fin 2) ∈ gather_S8192x64_S131072x1_S131072x64_1_0_n_n_0_1_164.startIndexMap := List.mem_singleton.mpr rfl
    have hat : gather_S8192x64_S131072x1_S131072x64_1_0_n_n_0_1_164.siIdx y ⟨List.idxOf (0 : Fin 2) _, List.idxOf_lt_length_iff.2 hin⟩
        = ix2 (y 0) 0 := funext fun b => match b with | ⟨0, _⟩ => rfl | ⟨1, _⟩ => rfl
    have hoff : GatherDims.offCoord gather_S8192x64_S131072x1_S131072x64_1_0_n_n_0_1_164 y (0 : Fin 2) = 0 :=
      GatherDims.offCoord_eq_zero _ _ _ fun h => ((GatherDims.mem_sKept _ _).mp h).1 (List.mem_singleton.mpr rfl)
    have hstart : GatherDims.start gather_S8192x64_S131072x1_S131072x64_1_0_n_n_0_1_164 y idx (0 : Fin 2)
        = min (idx (ix2 (y 0) 0)).toInt.toNat 8191 :=
      (dif_pos hin).trans (congrArg (fun i => min (idx i).toInt.toNat 8191) hat)
    exact (congrArg₂ (· + ·) hstart hoff).trans (Nat.add_zero _)
  | ⟨1, _⟩ =>
    have hstart : GatherDims.start gather_S8192x64_S131072x1_S131072x64_1_0_n_n_0_1_164 y idx (1 : Fin 2) = 0 :=
      dif_neg (by show ¬(1 : Fin 2) ∈ [(0 : Fin 2)]; decide)
    have hoff : GatherDims.offCoord gather_S8192x64_S131072x1_S131072x64_1_0_n_n_0_1_164 y (1 : Fin 2) = (y 1).val :=
      dif_pos ((GatherDims.mem_sKept _ _).mpr ⟨by show ¬(1 : Fin 2) ∈ [(0 : Fin 2)]; decide, List.not_mem_nil⟩)
    exact (congrArg₂ (· + ·) hstart hoff).trans (Nat.zero_add _)

/-- The row numbers the reference looks up: each index, 8192 added to a negative one, in one column. -/
def lookup (n : IVec S131072 32) : IVec S131072x1 32 :=
  broadcastInDim S131072x1 ![0] bcast_S131072_S131072x1_0
    (select (cmpi .slt n (broadcastInDim S131072 ![] bcast_S_S131072 (constantI S_ 32 0#32)))
      (addi n (broadcastInDim S131072 ![] bcast_S_S131072 (constantI S_ 32 8192#32))) n)

/-- Which of them name a row of the table. -/
def inTable (k : IVec S131072x1 32) : IVec S131072 1 :=
  Host.reduce IntOp.andi
    (andi (cmpi .sge k (broadcastInDim S131072x1 ![] bcast_S_S131072x1 (constantI S_ 32 0#32)))
      (cmpi .sle k (broadcastInDim S131072x1 ![0, 1] bcast_S1x1_S131072x1_0_1
        (broadcastInDim S1x1 ![1] bcast_S1_S1x1_1 (constantI S1 32 8191#32)))))
    (constantI S_ 1 1#1) reducesTo_S131072x1_S131072_d1 h_S_

variable {F : FTy → Type} [FloatOps F]

/-- The reference's result, as the operations of its run compose it. -/
def refOut (s : FVec F S131072x64 .f32) (b : IVec S131072 1) (e : FVec F S8192x64 .f32) (n : IVec S131072 32) : FVec F S131072x64 .f32 :=
  select (broadcastInDim S131072x64 ![0, 1] bcast_S131072x1_S131072x64_0_1 (broadcastInDim S131072x1 ![0] bcast_S131072_S131072x1_0 b)) s
    (select (broadcastInDim S131072x64 ![0] bcast_S131072_S131072x64_0 (inTable (lookup n)))
      (Host.gather gather_S8192x64_S131072x1_S131072x64_1_0_n_n_0_1_164 e (lookup n))
      (broadcastInDim S131072x64 ![] bcast_S_S131072x64 (constant S_ .f32 0x7FC00000#32)))

/-- An index below 8192 is looked up as it is. -/
theorem lookup_apply (n : IVec S131072 32) (hn : ∀ j, (n j).toNat < 8192) (j : S131072x1.Idx) : lookup n j = n (ix1 (j 0)) := by
  unfold lookup
  rw [column_apply]
  have hneg : IntOp.cmpi .slt (n (ix1 (j 0))) 0#32 = 0#1 := ValueIdx.eq_zero_of_ne_one fun h => by
    have h := (slt_iff_toNat (by have := hn (ix1 (j 0)); omega) (by decide)).1 h
    exact absurd h (Nat.not_lt_zero _)
  show Scalar.select (IntOp.cmpi .slt (n (ix1 (j 0))) 0#32) _ _ = _
  rw [hneg, ValueIdx.select_zero]

/-- Indices below 8192 all name a row of the table. -/
theorem inTable_apply (k : IVec S131072x1 32) (hk : ∀ j, (k j).toNat < 8192) (j : S131072.Idx) : inTable k j = 1#1 := by
  refine Host.reduce_andi_one _ _ _ _ _ rfl fun i => ?_
  have h := hk i
  refine IntOp.andi_eq_one.2 ⟨?_, ?_⟩
  · exact (sge_iff_toNat (b := 0#32) (by omega) (by decide)).2 (Nat.zero_le _)
  · exact (sle_iff_toNat (b := 8191#32) (by omega) (by decide)).2 (by show (k i).toNat ≤ 8191; omega)

/-- Where every index is below 8192, the reference's result is the array the kernel leaves. -/
theorem refOut_eq (s : FVec F S131072x64 .f32) (b : IVec S131072 1) (e : FVec F S8192x64 .f32) (n : IVec S131072 32)
    (hn : ∀ j, (n j).toNat < 8192) (hw : 1 < 32) : refOut s b e n = Tiles.outG (F := F) s (extui 32 b hw) e n := by
  funext x
  have hx := hn (ix1 (x 0))
  have hk : ∀ j, (lookup n j).toNat < 8192 := fun j => by rw [lookup_apply n hn]; exact hn _
  have hrow : min (lookup n (ix2 (x 0) 0)).toInt.toNat 8191 = (n (ix1 (x 0))).toNat % 8192 := by
    rw [lookup_apply n hn]
    show min (n (ix1 (x 0))).toInt.toNat 8191 = _
    rw [toInt_eq_toNat_of_lt (by omega), Int.toNat_natCast]
    omega
  have hgather : Host.gather gather_S8192x64_S131072x1_S131072x64_1_0_n_n_0_1_164 e (lookup n) x
      = e (ix2 ⟨(n (ix1 (x 0))).toNat % 8192, Nat.mod_lt _ (by decide)⟩ (x 1)) := by
    rw [gather_row]
    exact congrArg (fun r => e (ix2 r (x 1))) (Fin.ext hrow)
  have hb : broadcastInDim S131072x64 ![0, 1] bcast_S131072x1_S131072x64_0_1 (broadcastInDim S131072x1 ![0] bcast_S131072_S131072x1_0 b) x
      = b (ix1 (x 0)) := (wide_apply _ _ x).trans (column_apply _ b _)
  have hi := rows_apply bcast_S131072_S131072x64_0 (inTable (lookup n)) x
  have hsel := congrArg₂ (fun c d => Scalar.select c (s x)
      (Scalar.select d (Host.gather gather_S8192x64_S131072x1_S131072x64_1_0_n_n_0_1_164 e (lookup n) x)
        (broadcastInDim S131072x64 ![] bcast_S_S131072x64 (constant (F := F) S_ .f32 0x7FC00000#32) x))) hb hi
  have hword : Tiles.outG (F := F) s (extui 32 b hw) e n x
      = if (b (ix1 (x 0))).setWidth 32 = 0#32 then e (ix2 ⟨(n (ix1 (x 0))).toNat % 8192, Nat.mod_lt _ (by decide)⟩ (x 1)) else s x := rfl
  refine hsel.trans ?_
  beta_reduce
  rw [hword, inTable_apply _ hk, ValueIdx.select_one, hgather]
  rcases BitVec.eq_zero_or_eq_one (b (ix1 (x 0))) with h | h
  · rw [h, ValueIdx.select_zero]; exact (if_pos rfl).symm
  · rw [h, ValueIdx.select_one]; exact (if_neg (by decide)).symm

variable (m : (ℓ : Loc nD τ sig) → Buf (Elt F) ℓ) (ρ : Dev nD → PrngReg)

/-- The reference's run: its result, its arguments unchanged, every counter at zero. -/
theorem run_ref : θ_run (defs (F := F)) (onTc (τ := τ) (main (F := F))) ⟨m, fun _ => 0, ρ⟩ fun r => (∀ c : Dev nD,
      r.2.mem ((c.tc : Thread nD τ).loc main_v2) = refOut (F := F) (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0 :=
  (θ_run _ _ _).mono (fun r h => ⟨h, sem_eq_zero_of_no_sems (by decide) r.2⟩) (Cert.ReferenceIdeal.Value.run m ρ)

end Reference

end Cert.Proof.Values

end
-- ==== Proof.lean ====
/-
  The certificate: the kernel's frame at the bit-exact instance and at the ideal one, the reference's frame, and the
  equality of the two results. The kernel's run is `Tiles.run_main` (Proof/Launch.lean), proved for any float values;
  what the precondition says of the indices, the reference's run and the equality of what the two runs leave are
  Proof/Values.lean.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Values

@[expose] public section

noncomputable section

namespace Cert.Proof

open Idealize.ShloMosaic Idealize.SL.Sem

/-- The kernel's frame, bit-exact. The program and its idealization are one text, so the run at bit patterns is the
    same theorem's. -/
theorem frame_kernel : Cert.quiescent_Kernel := by
  intro m g hpre
  exact (θ_run Cert.Kernel.defs _ _).mono (fun _ h => ⟨fun c => (h.1 c).2, h.2⟩)
    (Tiles.run_main (F := Bits) m g fun d => Values.index_lt (F := Bits) _ _ _ _ (hpre d))

/-- The kernel's frame, its floats ideal. -/
theorem frame_ideal : Cert.quiescent_KernelIdeal := by
  intro m g hpre
  exact (θ_run Cert.KernelIdeal.defs _ _).mono (fun _ h => ⟨fun c => (h.1 c).2, h.2⟩)
    (Tiles.run_main (F := Ideal) m g fun d => Values.index_lt (F := Ideal) _ _ _ _ (hpre d))

/-- The reference's frame, which asks nothing of the indices. -/
theorem frame_reference : Cert.quiescent_ReferenceIdeal := by
  intro m g _
  exact (θ_run Cert.ReferenceIdeal.defs _ _).mono (fun _ h => ⟨fun c => (h.1 c).2, h.2⟩) (Values.run_ref (F := Ideal) m g)

/-- The kernel's result is the reference's: both are the array `Tiles.outG` of the arguments. -/
theorem equal : Cert.algebraic_KernelIdeal_ReferenceIdeal := by
  intro m g m' g' hpre hagree
  have hlt : Tiles.PreOK m := fun d => Values.index_lt (F := Ideal) _ _ _ _ (hpre d)
  refine ⟨fun c => Tiles.resOf c m, ?_, ?_⟩
  · exact (θ_run Cert.KernelIdeal.defs _ _).mono (fun _ h => h.1) (Tiles.run_main (F := Ideal) m g hlt)
  · refine (θ_run Cert.ReferenceIdeal.defs _ _).mono (fun _ h c => ⟨(h.1 c).1.trans ?_, (h.1 c).2⟩) (Values.run_ref (F := Ideal) m' g')
    obtain ⟨h0, h1, h2, h3⟩ := hagree c
    rw [h0, h1, h2, h3]
    exact Values.refOut_eq (F := Ideal) _ _ _ _ (hlt c) _

/-- Everything claimed, with the side conditions the programs state. -/
theorem claim : Cert.Claim :=
  ⟨Cert.Kernel.Gen.facts, Cert.KernelIdeal.Gen.facts, Cert.ReferenceIdeal.Gen.facts, Cert.Pre_in_range.Gen.facts,
    frame_kernel, frame_ideal, frame_reference, fun m g _ => frame_reference m g trivial, trivial, equal⟩

end Cert.Proof

end
